-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_clear_rows [hKernelIdeal : Cert.KernelIdeal.Facts] [hReferenceIdeal : Cert.ReferenceIdeal.Facts] [hOn_clear_rows : Cert.On_clear_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 16384]⟩ (Layout.meshBlock [2, 4, 4] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 16]⟩ : Shape).Idx, (Cert.On_clear_rows.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 16]⟩ : Shape).Idx, (Cert.On_clear_rows.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_clear_rows : Cert.On_clear_rows.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_clear_rows (hKernelIdeal := hKernelIdeal) (hReferenceIdeal := hReferenceIdeal) (hOn_clear_rows := hOn_clear_rows)
-- ==== On_clear_rows.lean ====
abbrev S512x16384 : Shape := ⟨2, ![512, 16384]⟩
abbrev S512x16 : Shape := ⟨2, ![512, 16]⟩
abbrev S512x15 : Shape := ⟨2, ![512, 15]⟩
abbrev S_ : Shape := ⟨0, ![]⟩
abbrev S512 : Shape := ⟨1, ![512]⟩
abbrev S512x1 : Shape := ⟨2, ![512, 1]⟩
abbrev S512x4x32x128 : Shape := ⟨4, ![512, 4, 32, 128]⟩
abbrev S512x4x128 : Shape := ⟨3, ![512, 4, 128]⟩

class Facts : Prop where
  slices_S512x16384_S512x16_0_0 : S512x16384.Slices ![0, 0] S512x16
  slices_S512x16_S512x15_0_1 : S512x16.Slices ![0, 1] S512x15
  slices_S512x16_S512x15_0_0 : S512x16.Slices ![0, 0] S512x15
  reducesTo_S512x15_S512_d1 : S512x15.ReducesTo [1] S512
  h_S_ : 0 < S_.numel
  slices_S512x16_S512x1_0_0 : S512x16.Slices ![0, 0] S512x1
  shapeCasts_S512x1_S512 : S512x1.ShapeCasts S512
  bcast_S_S512 : S_.BroadcastsInDim S512 (![] : Fin 0 → Fin S512.rank)
  slices_S512x16_S512x1_0_15 : S512x16.Slices ![0, 15] S512x1
  bcast_S512x1_S512x16384_0_1 : S512x1.BroadcastsInDim S512x16384 (![0, 1] : Fin 2 → Fin S512x16384.rank)
  shapeCasts_S512x16384_S512x4x32x128 : S512x16384.ShapeCasts S512x4x32x128
  natLt_1_32 : 1 < 32
  reducesTo_S512x4x32x128_S512x4x128_d2 : S512x4x32x128.ReducesTo [2] S512x4x128
  bcast_S_S512x4x128 : S_.BroadcastsInDim S512x4x128 (![] : Fin 0 → Fin S512x4x128.rank)
  reducesTo_S512x4x128_S512_d1_2 : S512x4x128.ReducesTo [1, 2] S512
  bcast_S512_S512x1_0 : S512.BroadcastsInDim S512x1 (![0] : Fin 1 → Fin S512x1.rank)
  bcast_S512x1_S512x16_0_1 : S512x1.BroadcastsInDim S512x16 (![0, 1] : Fin 2 → Fin S512x16.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x16384 .f32) : FVec F S512x16384 .f32 :=
  let v0 : FVec F S512x16384 .f32 := (fun x => Host.sort S512x16384 1 comparator_f32_d1 x) arg0
  v0

def fn_part1 {F : FTy → Type} [FloatOps F] (main_v7 : IVec S512 1) (main_v11 : IVec S512 1) (main_v19 : IVec S512x4x128 1) : IVec S512x16 1 :=
  let main_c_2 : IVec S_ 1 := constantI S_ 1 1#1
  let main_v20 : IVec S512 1 := (fun x v => Host.reduce IntOp.andi x v reducesTo_S512x4x128_S512_d1_2 h_S_) main_v19 main_c_2
  let main_v21 : IVec S512 1 := andi main_v7 main_v11
  let main_v22 : IVec S512 1 := andi main_v21 main_v20
  let main_v23 : IVec S512x1 1 := broadcastInDim S512x1 ![0] bcast_S512_S512x1_0 main_v22
  let main_v24 : IVec S512x16 1 := broadcastInDim S512x16 ![0, 1] bcast_S512x1_S512x16_0_1 main_v23
  main_v24

def fn {F : FTy → Type} [FloatOps F] (main_arg0 : FVec F S512x16384 .f32) : IVec S512x16 1 :=
  let main_v0 : FVec F S512x16384 .f32 := Host.negf main_arg0
  let main_v1 : FVec F S512x16384 .f32 := fn_sort (F := F) main_v0
  let main_v2 : FVec F S512x16 .f32 := (extractStridedSlice S512x16 ![0, 0] · slices_S512x16384_S512x16_0_0) main_v1
  let main_v3 : FVec F S512x16 .f32 := Host.negf main_v2
  let main_v4 : FVec F S512x15 .f32 := (extractStridedSlice S512x15 ![0, 1] · slices_S512x16_S512x15_0_1) main_v3
  let main_v5 : FVec F S512x15 .f32 := (extractStridedSlice S512x15 ![0, 0] · slices_S512x16_S512x15_0_0) main_v3
  let main_v6 : IVec S512x15 1 := cmpf .olt main_v4 main_v5
  let main_c : IVec S_ 1 := constantI S_ 1 1#1
  let main_v7 : IVec S512 1 := (fun x v => Host.reduce IntOp.andi x v reducesTo_S512x15_S512_d1 h_S_) main_v6 main_c
  let main_v8 : FVec F S512x1 .f32 := (extractStridedSlice S512x1 ![0, 0] · slices_S512x16_S512x1_0_0) main_v3
  let main_v9 : FVec F S512 .f32 := shapeCast S512 main_v8 shapeCasts_S512x1_S512
  let main_cst : FVec F S_ .f32 := constant S_ .f32 0x7F800000#32
  let main_v10 : FVec F S512 .f32 := broadcastInDim S512 ![] bcast_S_S512 main_cst
  let main_v11 : IVec S512 1 := cmpf .olt main_v9 main_v10
  let main_v12 : FVec F S512x1 .f32 := (extractStridedSlice S512x1 ![0, 15] · slices_S512x16_S512x1_0_15) main_v3
  let main_v13 : FVec F S512x16384 .f32 := broadcastInDim S512x16384 ![0, 1] bcast_S512x1_S512x16384_0_1 main_v12
  let main_v14 : IVec S512x16384 1 := cmpf .oge main_arg0 main_v13
  let main_v15 : IVec S512x4x32x128 1 := shapeCast S512x4x32x128 main_v14 shapeCasts_S512x16384_S512x4x32x128
  let main_v16 : IVec S512x4x32x128 32 := (extui 32 · natLt_1_32) main_v15
  let main_c_0 : IVec S_ 32 := constantI S_ 32 0#32
  let main_v17 : IVec S512x4x128 32 := (fun x v => Host.reduce IntOp.addi x v reducesTo_S512x4x32x128_S512x4x128_d2 h_S_) main_v16 main_c_0
  let main_c_1 : IVec S_ 32 := constantI S_ 32 4#32
  let main_v18 : IVec S512x4x128 32 := broadcastInDim S512x4x128 ![] bcast_S_S512x4x128 main_c_1
  let main_v19 : IVec S512x4x128 1 := cmpi .sle main_v17 main_v18
  fn_part1 (F := F) main_v7 main_v11 main_v19
-- ==== Kernel.lean ====
abbrev S512x4096 : Shape := ⟨2, ![512, 4096]⟩
abbrev S512x16 : Shape := ⟨2, ![512, 16]⟩
abbrev S3x512x16 : Shape := ⟨3, ![3, 512, 16]⟩
abbrev S3 : Shape := ⟨1, ![3]⟩
abbrev S_ : Shape := ⟨0, ![]⟩
abbrev S512x128 : Shape := ⟨2, ![512, 128]⟩
abbrev S512x1 : Shape := ⟨2, ![512, 1]⟩
abbrev S512 : Shape := ⟨1, ![512]⟩
abbrev S1 : Shape := ⟨1, ![1]⟩
abbrev S1x512x16 : Shape := ⟨3, ![1, 512, 16]⟩

abbrev nBuf : Space → Nat
  | .hbm => 2
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S512x16, .f32⟩
  | .local _ .vmem, ⟨3, _⟩ => ⟨S3x512x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c4_i32_11 : BitVec 32 := 4#32
  let v23 : BitVec 32 := Scalar.muli v20 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let v27 : BitVec 32 := Scalar.addi v5 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c4_i32_23 : BitVec 32 := 4#32
  let v40 : BitVec 32 := Scalar.muli v37 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v44 : BitVec 32 := Scalar.addi v5 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c4_i32_34 : BitVec 32 := 4#32
  let v57 : BitVec 32 := Scalar.muli v54 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.muli v8 c1_i32_35
  let v60 : BitVec 32 := Scalar.addi v58 v59
  v60.toNat
def k0_dev4 (d0 : Dev nD) : Nat :=
  let c0_i32_225 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_224 : BitVec 32 := 16#32
  let v837 : BitVec 32 := Scalar.muli v2 c16_i32_224
  let v838 : BitVec 32 := Scalar.addi c0_i32_225 v837
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_214 : BitVec 32 := 1#32
  let v826 : BitVec 32 := Scalar.addi v5 c1_i32_214
  let c4_i32_215 : BitVec 32 := 4#32
  let c0_i32_216 : BitVec 32 := 0#32
  let v827 : BitVec 1 := Scalar.cmpi .eq c4_i32_215 c0_i32_216
  let c1_i32_217 : BitVec 32 := 1#32
  let v828 : BitVec 32 := Scalar.select v827 c1_i32_217 c4_i32_215
  let v829 : BitVec 32 := Scalar.remsi v826 v828
  let c0_i32_219 : BitVec 32 := 0#32
  let v831 : BitVec 1 := Scalar.cmpi .slt v829 c0_i32_219
  let c0_i32_220 : BitVec 32 := 0#32
  let v832 : BitVec 1 := Scalar.cmpi .slt v828 c0_i32_220
  let v833 : BitVec 1 := Scalar.xori v831 v832
  let c0_i32_218 : BitVec 32 := 0#32
  let v830 : BitVec 1 := Scalar.cmpi .ne v829 c0_i32_218
  let v834 : BitVec 1 := Scalar.andi v833 v830
  let v835 : BitVec 32 := Scalar.addi v829 v828
  let v836 : BitVec 32 := Scalar.select v834 v835 v829
  let c4_i32_226 : BitVec 32 := 4#32
  let v839 : BitVec 32 := Scalar.muli v836 c4_i32_226
  let v840 : BitVec 32 := Scalar.addi v838 v839
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_227 : BitVec 32 := 1#32
  let v841 : BitVec 32 := Scalar.muli v8 c1_i32_227
  let v842 : BitVec 32 := Scalar.addi v840 v841
  v842.toNat
def k0_dev5 (d0 : Dev nD) : Nat :=
  let c0_i32_241 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_240 : BitVec 32 := 16#32
  let v860 : BitVec 32 := Scalar.muli v2 c16_i32_240
  let v861 : BitVec 32 := Scalar.addi c0_i32_241 v860
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_230 : BitVec 32 := 2#32
  let v849 : BitVec 32 := Scalar.addi v5 c2_i32_230
  let c4_i32_231 : BitVec 32 := 4#32
  let c0_i32_232 : BitVec 32 := 0#32
  let v850 : BitVec 1 := Scalar.cmpi .eq c4_i32_231 c0_i32_232
  let c1_i32_233 : BitVec 32 := 1#32
  let v851 : BitVec 32 := Scalar.select v850 c1_i32_233 c4_i32_231
  let v852 : BitVec 32 := Scalar.remsi v849 v851
  let c0_i32_235 : BitVec 32 := 0#32
  let v854 : BitVec 1 := Scalar.cmpi .slt v852 c0_i32_235
  let c0_i32_236 : BitVec 32 := 0#32
  let v855 : BitVec 1 := Scalar.cmpi .slt v851 c0_i32_236
  let v856 : BitVec 1 := Scalar.xori v854 v855
  let c0_i32_234 : BitVec 32 := 0#32
  let v853 : BitVec 1 := Scalar.cmpi .ne v852 c0_i32_234
  let v857 : BitVec 1 := Scalar.andi v856 v853
  let v858 : BitVec 32 := Scalar.addi v852 v851
  let v859 : BitVec 32 := Scalar.select v857 v858 v852
  let c4_i32_242 : BitVec 32 := 4#32
  let v862 : BitVec 32 := Scalar.muli v859 c4_i32_242
  let v863 : BitVec 32 := Scalar.addi v861 v862
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v864 : BitVec 32 := Scalar.muli v8 c1_i32_243
  let v865 : BitVec 32 := Scalar.addi v863 v864
  v865.toNat
def k0_dev6 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_256 : BitVec 32 := 16#32
  let v883 : BitVec 32 := Scalar.muli v2 c16_i32_256
  let v884 : BitVec 32 := Scalar.addi c0_i32_257 v883
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_246 : BitVec 32 := 3#32
  let v872 : BitVec 32 := Scalar.addi v5 c3_i32_246
  let c4_i32_247 : BitVec 32 := 4#32
  let c0_i32_248 : BitVec 32 := 0#32
  let v873 : BitVec 1 := Scalar.cmpi .eq c4_i32_247 c0_i32_248
  let c1_i32_249 : BitVec 32 := 1#32
  let v874 : BitVec 32 := Scalar.select v873 c1_i32_249 c4_i32_247
  let v875 : BitVec 32 := Scalar.remsi v872 v874
  let c0_i32_251 : BitVec 32 := 0#32
  let v877 : BitVec 1 := Scalar.cmpi .slt v875 c0_i32_251
  let c0_i32_252 : BitVec 32 := 0#32
  let v878 : BitVec 1 := Scalar.cmpi .slt v874 c0_i32_252
  let v879 : BitVec 1 := Scalar.xori v877 v878
  let c0_i32_250 : BitVec 32 := 0#32
  let v876 : BitVec 1 := Scalar.cmpi .ne v875 c0_i32_250
  let v880 : BitVec 1 := Scalar.andi v879 v876
  let v881 : BitVec 32 := Scalar.addi v875 v874
  let v882 : BitVec 32 := Scalar.select v880 v881 v875
  let c4_i32_258 : BitVec 32 := 4#32
  let v885 : BitVec 32 := Scalar.muli v882 c4_i32_258
  let v886 : BitVec 32 := Scalar.addi v884 v885
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v887 : BitVec 32 := Scalar.muli v8 c1_i32_259
  let v888 : BitVec 32 := Scalar.addi v886 v887
  v888.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x16384 : Shape := ⟨2, ![512, 16384]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S512x16384, .i32⟩
  | .hbm, ⟨3, _⟩ => ⟨S512x16384, .f32⟩
  | .hbm, ⟨4, _⟩ => ⟨S512x16384, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.IdealBody.lean ====
/-
# The kernel's body, read as loops

The printed body is a straight line of some four hundred vector operations cut into parts. Here it is
written once more as the loops it came from — the thirty-two blocks of a device's columns, the four
best values of each lane, the sixteen columns of a device's own answer, the three sends and receives,
the sixteen columns of the merged answer — and proved to be the printed body.
-/
module

public import proofs.«01_k».proof.Proof.Gen.KernelIdeal
public import proofs.«01_k».proof.Proof.Gen.KernelIdeal.Skeleton
public import Idealize.ShloMosaic.Lib.Tactic

@[expose] public section

noncomputable section

namespace Cert.KernelIdeal.Top

open Cert.KernelIdeal Cert.KernelIdeal.Gen
open Idealize.ShloMosaic Idealize.SL.Sem

variable {F : FTy → Type} [FloatOps F]

/-! ## The values -/

/-- The running maximum of the blocks `v 0 … v n`. -/
def running (v : ℕ → FVec F S512x128 .f32) (n : ℕ) : FVec F S512x128 .f32 :=
  Nat.rec (v 0) (fun j a => maximumf a (v (j + 1))) n

/-- Negative infinity, in every place. -/
def bottom (s : Shape) : FVec F s .f32 := broadcast s (Scalar.ofBits .f32 0xFF800000#32)

/-- `v` where it is below `p`, negative infinity elsewhere. -/
def under {s : Shape} (p v : FVec F s .f32) : FVec F s .f32 := select (cmpf .olt v p) v (bottom s)

/-- The `j`-th best value of every lane: each the maximum of what lies below the one before. -/
def best (v : ℕ → FVec F S512x128 .f32) (j : ℕ) : FVec F S512x128 .f32 :=
  Nat.rec (running v 31) (fun _ p => running (fun b => under p (v b)) 31) j

/-- The largest, row by row, of the lanes' four values that lie below the row's threshold `t`. -/
def rowMax (v : ℕ → FVec F S512x128 .f32) (t : FVec F S512x1 .f32) : FVec F S512x1 .f32 :=
  let w : FVec F S512x128 .f32 := broadcastTo S512x128 t broadcasts_S512x1_S512x128
  let step (c r : FVec F S512x128 .f32) : FVec F S512x128 .f32 := select (cmpf .olt c w) c r
  shapeCast S512x1 (multiReduction .maximumf [1] S512
    (step (best v 0) (step (best v 1) (step (best v 2) (step (best v 3) (bottom S512x128)))))
    0xFF800000#32 reduces_S512x128_S512 (.inl rfl) rfl) shapeCasts_S512_S512x1

/-- Positive infinity in every row: the first threshold. -/
def noLimit : FVec F S512x1 .f32 := broadcast S512x1 (Scalar.ofBits .f32 0x7F800000#32)

/-- The device's own answer, column `k`: each column the row maximum below the column before. -/
def own (v : ℕ → FVec F S512x128 .f32) (k : ℕ) : FVec F S512x1 .f32 :=
  Nat.rec (rowMax v noLimit) (fun _ t => rowMax v t) k

/-- The largest, row by row, of a block of sixteen columns below the threshold `t`. -/
def blockMax (b : FVec F S512x16 .f32) (t : FVec F S512x1 .f32) : FVec F S512x1 .f32 :=
  shapeCast S512x1 (multiReduction .maximumf [1] S512 (under (broadcastTo S512x16 t broadcasts_S512x1_S512x16) b)
    0xFF800000#32 reduces_S512x16_S512 (.inl rfl) rfl) shapeCasts_S512_S512x1

/-- The largest of four blocks below the threshold `t`. -/
def fourMax (b : Fin 4 → FVec F S512x16 .f32) (t : FVec F S512x1 .f32) : FVec F S512x1 .f32 :=
  maximumf (maximumf (maximumf (blockMax (b 0) t) (blockMax (b 1) t)) (blockMax (b 2) t)) (blockMax (b 3) t)

/-- The merged answer, column `k`. -/
def merged (b : Fin 4 → FVec F S512x16 .f32) (k : ℕ) : FVec F S512x1 .f32 :=
  Nat.rec (fourMax b noLimit) (fun _ t => fourMax b t) k

/-! ## The loops -/

theorem inb_blk (b : Fin 32) : ∀ a, (![0, 128 * b.val] : Fin 2 → Nat) a + S512x128.size a ≤ S512x4096.size a := by
  revert b; decide
theorem inb_col (k : Fin 16) : ∀ a, (![0, k.val] : Fin 2 → Nat) a + S512x1.size a ≤ S512x16.size a := by
  revert k; decide
theorem inb_slot (s : Fin 3) : ∀ a, (![s.val, 0, 0] : Fin 3 → Nat) a + S1x512x16.size a ≤ S3x512x16.size a := by
  revert s; decide
theorem inb_sem (s : Fin 3) : ∀ a, (![s.val] : Fin 1 → Nat) a + S1.size a ≤ S3.size a := by
  revert s; decide

/-- Columns `128 b … 128 b + 127` of the input block. -/
abbrev blkRect (b : Fin 32) : Rect S512x4096 := Rect.unit (s := S512x4096) ![0, 128 * b.val] S512x128.size (inb_blk b)
/-- Column `k` of a block of sixteen. -/
abbrev colRect (k : Fin 16) : Rect S512x16 := Rect.unit (s := S512x16) ![0, k.val] S512x1.size (inb_col k)
/-- Slot `s` of the landing buffer. -/
abbrev slotRect (s : Fin 3) : Rect S3x512x16 := Rect.unit (s := S3x512x16) ![s.val, 0, 0] S1x512x16.size (inb_slot s)

/-- Load the blocks listed, in order, and go on with the function that gives each its value. -/
def loadBlocks {α : Type} (a0 : Memref sig .tc .vmem S512x4096 .f32) (l : List (Fin 32)) :
    (v : ℕ → FVec F S512x128 .f32) → ((ℕ → FVec F S512x128 .f32) → Prog (TpuEff nD τ sig (Elt F) Λ₀ .tc) α) →
      Prog (TpuEff nD τ sig (Elt F) Λ₀ .tc) α :=
  List.rec (fun v k => k v)
    (fun b _ next v k => .op (.load a0 (blkRect b).toLoadRect (View.loadsAt_vmem h_S512x128)) fun x =>
      next (fun n => if n = b.val then shapeCast S512x128 x shapeCasts_S512x128_S512x128 else v n) k) l

/-- Store `f k` into column `k`, for each column listed, in order; each store after a load of the column. -/
def putCols {α : Type} (a : Memref sig .tc .vmem S512x16 .f32) (f : ℕ → FVec F S512x1 .f32) (l : List (Fin 16))
    (next : Prog (TpuEff nD τ sig (Elt F) Λ₀ .tc) α) : Prog (TpuEff nD τ sig (Elt F) Λ₀ .tc) α :=
  List.rec next
    (fun k _ rest => .op (.load a (colRect k).toLoadRect (View.loadsAt_vmem h_S512x1)) fun _ =>
      .op (.store a (colRect k) (f k.val) Finset.univ (View.stores_vmem_bits_univ h_S512x1 rfl) (.inl rfl)) fun _ => rest) l

/-- Slot `s` of the landing buffer, as a block of sixteen columns. -/
abbrev slot (a3 : Memref sig .tc .vmem S3x512x16 .f32) (s : Fin 3) : Memref sig .tc .vmem S512x16 .f32 :=
  (a3.slice (slotRect s) (fun _ => rfl)).squeeze S512x16 squeezes_S1x512x16_S512x16
/-- Semaphore `s` of an array of three. -/
abbrev semAt (a : DmaSems sig S3) (s : Fin 3) : DmaSem sig :=
  ((a.slice (Rect.unit (s := S3) ![s.val] S1.size (inb_sem s))).squeeze S_ squeezes_S1_S_).sem

/-- The device the `s`-th transfer of device `d` goes to. -/
def sendTo (d : Dev nD) (s : Fin 3) : Dev nD :=
  match s with
  | 0 => ⟨k0_dev4 d, k0_dev4_lt d⟩
  | 1 => ⟨k0_dev5 d, k0_dev5_lt d⟩
  | 2 => ⟨k0_dev6 d, k0_dev6_lt d⟩
/-- The device the `s`-th signal of device `d` goes to. -/
def signalTo (d : Dev nD) (s : Fin 3) : Dev nD :=
  match s with
  | 0 => ⟨k0_dev1 d, k0_dev1_lt d⟩
  | 1 => ⟨k0_dev2 d, k0_dev2_lt d⟩
  | 2 => ⟨k0_dev3 d, k0_dev3_lt d⟩

/-- The handshake's semaphore. -/
abbrev bar : Sem sig := (SemArray.scalar (sig.barrier 0 rfl) : Sems sig S_).sem

abbrev sendOp {α : Type} (a2 : Memref sig .tc .vmem S512x16 .f32) (h2 : a2.IsWhole) (a3 : Memref sig .tc .vmem S3x512x16 .f32)
    (a4 a5 : DmaSems sig S3) (n : Dev nD) (s : Fin 3) (k : PUnit → Prog (TpuEff nD τ sig (Elt F) Λ₀ .tc) α) :
    Prog (TpuEff nD τ sig (Elt F) Λ₀ .tc) α :=
  .op (.enqueueDma a2 (.remote (Dev.tc n) (slot a3 s) (.dma (semAt a4 s))) (.dma (semAt a5 s)) h2.wordExact
    ((View.wordExact_bits rfl).reshape _ _) ⟨⟨rfl, Or.inl rfl⟩, trivial⟩) k
abbrev recvOp {α : Type} (a2 : Memref sig .tc .vmem S512x16 .f32) (h2 : a2.IsWhole) (a3 : Memref sig .tc .vmem S3x512x16 .f32)
    (a5 : DmaSems sig S3) (s : Fin 3) (k : PUnit → Prog (TpuEff nD τ sig (Elt F) Λ₀ .tc) α) :
    Prog (TpuEff nD τ sig (Elt F) Λ₀ .tc) α :=
  .op (.waitDma2 (semAt a5 s) a2 (slot a3 s) h2.wordExact ((View.wordExact_bits rfl).reshape _ _)) k
abbrev sentOp {α : Type} (a2 : Memref sig .tc .vmem S512x16 .f32) (h2 : a2.IsWhole) (a3 : Memref sig .tc .vmem S3x512x16 .f32)
    (a4 : DmaSems sig S3) (s : Fin 3) (k : PUnit → Prog (TpuEff nD τ sig (Elt F) Λ₀ .tc) α) :
    Prog (TpuEff nD τ sig (Elt F) Λ₀ .tc) α :=
  .op (.waitDma2 (semAt a4 s) (slot a3 s) a2 ((View.wordExact_bits rfl).reshape _ _) h2.wordExact) k
abbrev slotOp {α : Type} (a3 : Memref sig .tc .vmem S3x512x16 .f32) (s : Fin 3)
    (k : FVec F S512x16 .f32 → Prog (TpuEff nD τ sig (Elt F) Λ₀ .tc) α) : Prog (TpuEff nD τ sig (Elt F) Λ₀ .tc) α :=
  .op (.load a3 (slotRect s).toLoadRect (View.loadsAt_vmem h_S1x512x16)) fun x => k (shapeCast S512x16 x shapeCasts_S1x512x16_S512x16)

/-- Blocks and columns, in order. -/
abbrev allBlocks : List (Fin 32) := List.finRange 32
abbrev allCols : List (Fin 16) := List.finRange 16

/-- After the handshake: blocks in, own answer out, the exchange, the merged answer. -/
def afterBarrier (a0 : Memref sig .tc .vmem S512x4096 .f32) (a1 a2 : Memref sig .tc .vmem S512x16 .f32) (h2 : a2.IsWhole)
    (a3 : Memref sig .tc .vmem S3x512x16 .f32) (a4 a5 : DmaSems sig S3) (d : Dev nD) :
    Prog (TpuEff nD τ sig (Elt F) Λ₀ .tc) PUnit :=
  loadBlocks a0 allBlocks (fun _ => bottom S512x128) fun v =>
  putCols a2 (fun k => shapeCast S512x1 (own v k) shapeCasts_S512x1_S512x1) allCols <|
  sendOp a2 h2 a3 a4 a5 (sendTo d 0) 0 fun _ => sendOp a2 h2 a3 a4 a5 (sendTo d 1) 1 fun _ =>
  sendOp a2 h2 a3 a4 a5 (sendTo d 2) 2 fun _ =>
  recvOp a2 h2 a3 a5 0 fun _ => recvOp a2 h2 a3 a5 1 fun _ => recvOp a2 h2 a3 a5 2 fun _ =>
  .op (.load a2 (Rect.unit (s := S512x16) ![0, 0] S512x16.size inb_S512x16_S512x16_0_0).toLoadRect (View.loadsAt_vmem h_S512x16)) fun (b0 : Vec F S512x16 .f32) =>
  slotOp a3 0 fun b1 => slotOp a3 1 fun b2 => slotOp a3 2 fun b3 =>
  putCols a1 (merged ![b0, b1, b2, b3]) allCols <|
  sentOp a2 h2 a3 a4 0 fun _ => sentOp a2 h2 a3 a4 1 fun _ => sentOp a2 h2 a3 a4 2 fun _ => .ret ⟨⟩

/-- The body as loops. -/
def body (a0 : Memref sig .tc .vmem S512x4096 .f32) (a1 a2 : Memref sig .tc .vmem S512x16 .f32) (h2 : a2.IsWhole)
    (a3 : Memref sig .tc .vmem S3x512x16 .f32) (a4 a5 : DmaSems sig S3) : Prog (TpuEff nD τ sig (Elt F) Λ₀ .tc) PUnit := do
  let d : Dev nD ← Prog.lift .deviceId
  semSignalWord (signalTo d 0) bar 1#32
  semSignalWord (signalTo d 1) bar 1#32
  semSignalWord (signalTo d 2) bar 1#32
  semWaitWord bar 3#32
  afterBarrier a0 a1 a2 h2 a3 a4 a5 d

/-- The printed body is that program. -/
theorem body_eq (a0 h0 a1 h1 a2 h2 a3 h3 a4 a5) :
    cc0_body (F := F) a0 h0 a1 h1 a2 h2 a3 h3 a4 a5 = body (F := F) a0 a1 a2 h2 a3 a4 a5 := by
  sl_kernel_rfl

end Cert.KernelIdeal.Top

end
-- ==== Proof.IdealLoops.lean ====
/-
# What the kernel's loops do to memory

The blocks a device loads, as a function of what its input block holds; the two answer buffers after
their sixteen columns are stored, whatever they held before; a landing slot as the three-axis load
reads it; and the two loops executed.
-/
module

public import proofs.«01_k».proof.Proof.IdealBody
public import proofs.«01_k».proof.Proof.Gen.KernelIdeal.Launch
public import Idealize.ShloMosaic.Lib.Pipeline.Launch
public import Idealize.ShloMosaic.Lib.Pipeline.Kit

@[expose] public section

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers -/

/-- A device's input block, its result block, its own answer, and the buffer its peers' answers land in. -/
abbrev xM : Memref sig .tc .vmem S512x4096 .f32 := Memref.whole cc0_stg0_0
abbrev oM : Memref sig .tc .vmem S512x16 .f32 := Memref.whole cc0_stg1_0
abbrev lM : Memref sig .tc .vmem S512x16 .f32 := Memref.whole cc0_scratch0
abbrev cM : Memref sig .tc .vmem S3x512x16 .f32 := Memref.whole cc0_scratch1

/-! ## The blocks loaded -/

/-- Block `b` of an input block that holds `X`. -/
def blockAt (X : (cc0_stg0_0 : Ref sig .tc).ty.Contents (Elt F)) (b : Fin 32) : FVec F S512x128 .f32 :=
  shapeCast S512x128 (xM.view.readAt (Elt F) (blkRect b).toLoadRect X) shapeCasts_S512x128_S512x128

/-- The function `loadBlocks` goes on with, from `v`, after the blocks listed. -/
def loaded (X : (cc0_stg0_0 : Ref sig .tc).ty.Contents (Elt F)) (l : List (Fin 32)) (v : ℕ → FVec F S512x128 .f32) :
    ℕ → FVec F S512x128 .f32 :=
  l.foldl (fun v b n => if n = b.val then blockAt X b else v n) v

/-- The blocks of an input block that holds `X`. -/
def blocks (X : (cc0_stg0_0 : Ref sig .tc).ty.Contents (Elt F)) : ℕ → FVec F S512x128 .f32 :=
  loaded X allBlocks fun _ => bottom S512x128

/-- Loading blocks other than `n` leaves what is known of `n`. -/
theorem loaded_of_not_mem (X : (cc0_stg0_0 : Ref sig .tc).ty.Contents (Elt F)) (n : Fin 32) :
    ∀ (l : List (Fin 32)) (v : ℕ → FVec F S512x128 .f32), n ∉ l → loaded X l v n.val = v n.val
  | [], _, _ => rfl
  | b :: l, v, h => by
    rw [List.mem_cons, not_or] at h
    show loaded X l (fun n => if n = b.val then blockAt X b else v n) n.val = v n.val
    rw [loaded_of_not_mem X n l _ h.2, if_neg fun e => h.1 (Fin.ext e)]

/-- A block loaded is known at its number. -/
theorem loaded_of_mem (X : (cc0_stg0_0 : Ref sig .tc).ty.Contents (Elt F)) (n : Fin 32) :
    ∀ (l : List (Fin 32)) (v : ℕ → FVec F S512x128 .f32), n ∈ l → loaded X l v n.val = blockAt X n
  | [], _, h => absurd h List.not_mem_nil
  | b :: l, v, h => by
    show loaded X l (fun n => if n = b.val then blockAt X b else v n) n.val = blockAt X n
    by_cases hl : n ∈ l
    · exact loaded_of_mem X n l _ hl
    · have hb : n = b := (List.mem_cons.mp h).resolve_right hl
      rw [loaded_of_not_mem X n l _ hl, if_pos (congrArg Fin.val hb), hb]

theorem blocks_apply (X : (cc0_stg0_0 : Ref sig .tc).ty.Contents (Elt F)) (b : Fin 32) : blocks X b.val = blockAt X b :=
  loaded_of_mem X b _ _ (List.mem_finRange b)

/-! ## The columns stored -/

/-- Row `i 0` of a single column. -/
def rowOf (i : S512x16.Idx) : S512x1.Idx := fun a => match a with
  | ⟨0, _⟩ => i 0
  | ⟨1, _⟩ => ⟨0, Nat.one_pos⟩
  | ⟨_ + 2, h⟩ => absurd h (Nat.not_lt.2 (Nat.le_add_left _ _))

/-- The column an element of a block of sixteen is in. -/
def colNo (i : S512x16.Idx) : Fin 16 := i 1

/-- A block of sixteen columns whose column `k` is `f k`. -/
def colsOf (f : ℕ → FVec F S512x1 .f32) : FVec F S512x16 .f32 := fun i => f (colNo i).val (rowOf i)

/-- The contents of a buffer after the columns listed are stored. -/
def filled (a : Memref sig .tc .vmem S512x16 .f32) (f : ℕ → FVec F S512x1 .f32) (l : List (Fin 16))
    (g : a.view.ty.Contents (Elt F)) : a.view.ty.Contents (Elt F) :=
  l.foldl (fun g k => (a.access (colRect k)).write (Elt F) g (f k.val) Finset.univ) g

/-- A column's own elements: row `i 0` of column `k` is the element `i` when `i` is in column `k`. -/
theorem col_emb (k : Fin 16) (i : S512x16.Idx) (h : colNo i = k) : (colRect k).emb (rowOf i) = i := by
  funext a
  refine Fin.ext ?_
  rw [Rect.emb_apply]
  fin_cases a
  · simp [rowOf]
  · simp [rowOf]; exact (congrArg Fin.val h).symm

theorem col_not_mem (k : Fin 16) (i : S512x16.Idx) (h : colNo i ≠ k) : i ∉ Finset.univ.map (colRect k).emb := by
  intro hm
  obtain ⟨x, -, rfl⟩ := Finset.mem_map.mp hm
  refine h (Fin.ext ?_)
  show ((colRect k).emb x 1).val = k.val
  rw [Rect.emb_apply]
  have : (x 1).val < 1 := (x 1).isLt
  simp
  omega

/-- Read back: a column listed holds its `f k`, any other what it held. -/
theorem read_filled (a : Memref sig .tc .vmem S512x16 .f32) (f : ℕ → FVec F S512x1 .f32) (i : S512x16.Idx) :
    ∀ (l : List (Fin 16)) (g : a.view.ty.Contents (Elt F)),
      a.view.read (Elt F) (filled a f l g) i = if colNo i ∈ l then colsOf f i else a.view.read (Elt F) g i
  | [], _ => by rw [if_neg List.not_mem_nil]; rfl
  | k :: l, g => by
    show a.view.read (Elt F) (filled a f l ((a.view.slice (colRect k)).write (Elt F) g (f k.val) Finset.univ)) i = _
    rw [read_filled a f i l]
    by_cases hl : colNo i ∈ l
    · rw [if_pos hl, if_pos (List.mem_cons_of_mem _ hl)]
    · rw [if_neg hl]
      by_cases hk : colNo i = k
      · rw [if_pos (List.mem_cons.mpr (Or.inl hk))]
        have e := a.view.read_slice_write_emb (Val := Elt F) (colRect k) g (f k.val) (M := Finset.univ) (x := rowOf i) (Finset.mem_univ _)
        rw [col_emb k i hk] at e
        rw [e]; unfold colsOf; rw [hk]
      · rw [if_neg fun hm => (List.mem_cons.mp hm).elim hk hl,
          a.view.read_slice_write_of_not_mem (Val := Elt F) (colRect k) g (f k.val) Finset.univ (col_not_mem k i hk)]

/-- All sixteen columns stored, a buffer holds them and nothing of what it held. -/
theorem filled_local (f : ℕ → FVec F S512x1 .f32) (g : (cc0_scratch0 : Ref sig .tc).ty.Contents (Elt F)) :
    filled lM f allCols g = colsOf f := by
  funext i
  have h := read_filled lM f i allCols g
  rwa [if_pos (List.mem_finRange _)] at h
theorem filled_out (f : ℕ → FVec F S512x1 .f32) (g : (cc0_stg1_0 : Ref sig .tc).ty.Contents (Elt F)) :
    filled oM f allCols g = colsOf f := by
  funext i
  have h := read_filled oM f i allCols g
  rwa [if_pos (List.mem_finRange _)] at h

/-! ## A landing slot -/

/-- Slot `s` read by the three-axis load and reshaped is the slot read as a block. -/
theorem slot_read (s : Fin 3) (f : (cc0_scratch1 : Ref sig .tc).ty.Contents (Elt F)) :
    shapeCast S512x16 (cM.view.readAt (Elt F) (slotRect s).toLoadRect f) shapeCasts_S1x512x16_S512x16
      = (slot cM s).view.read (Elt F) f := rfl

/-- The elements of slot `s`. -/
theorem slot_set (s : Fin 3) : (slot cM s).view.set = (slotRect s).set := by
  show ((cM.view.slice (slotRect s)).reshape _ _).set = _
  rw [View.set_reshape, View.set_slice_whole]

/-- The slot an element of the landing buffer is in. -/
def slotNo (i : S3x512x16.Idx) : Fin 3 := i 0

/-- An element is in slot `s` exactly when its leading coordinate is `s`. -/
theorem mem_slot (s : Fin 3) (i : S3x512x16.Idx) : Iff (i ∈ (slotRect s).set) (slotNo i = s) := by
  rw [← Rect.map_emb_univ]
  constructor
  · intro h
    obtain ⟨x, -, rfl⟩ := Finset.mem_map.mp h
    refine Fin.ext ?_
    show ((slotRect s).emb x 0).val = s.val
    rw [Rect.emb_apply]
    have : (x 0).val < 1 := (x 0).isLt
    simp
    omega
  · intro h
    refine Finset.mem_map.mpr ⟨(fun a => match a with
      | ⟨0, _⟩ => ⟨0, Nat.one_pos⟩
      | ⟨1, _⟩ => i 1
      | ⟨2, _⟩ => i 2
      | ⟨_ + 3, h⟩ => absurd h (Nat.not_lt.2 (Nat.le_add_left _ _)) : S1x512x16.Idx), Finset.mem_univ _, ?_⟩
    funext a
    refine Fin.ext ?_
    rw [Rect.emb_apply]
    fin_cases a
    · simp; exact (congrArg Fin.val h).symm
    · simp
    · simp

/-- The three slots share no element, -/
theorem slots_apart (s t : Fin 3) (h : s ≠ t) : Disjoint (slotRect s).set (slotRect t).set := by
  rw [Finset.disjoint_left]
  intro i hs ht
  exact h (((mem_slot s i).mp hs).symm.trans ((mem_slot t i).mp ht))

/-- and are together the whole landing buffer. -/
theorem slots_cover : (Finset.univ.biUnion fun s : Fin 3 => (slotRect s).set) = Finset.univ :=
  Finset.eq_univ_of_forall fun i => Finset.mem_biUnion.mpr
    ⟨slotNo i, Finset.mem_univ _, (mem_slot _ i).mpr rfl⟩

/-! ## The loops, executed -/

section Loops

variable {U : Type} [URA U]
local notation "𝕄" => MT nD τ sig Unit (Elt F) ℕ U ℕ

/-- The blocks loaded, one by one: the input block is only read. -/
theorem wp_loadBlocks {α : Type} (c : Dev nD) (q : PosShare TreeShare) (X : (cc0_stg0_0 : Ref sig .tc).ty.Contents (Elt F))
    (Q : α → sProp 𝕄) (k : (ℕ → FVec F S512x128 .f32) → Prog (TpuEff nD τ sig (Elt F) Λ₀ .tc) α) :
    ∀ (l : List (Fin 32)) (v : ℕ → FVec F S512x128 .f32),
      (((c : Thread nD τ).loc cc0_stg0_0) ↦{q} X : sProp 𝕄)
        ⊢ iprop(((((c : Thread nD τ).loc cc0_stg0_0) ↦{q} X)
              -∗ wp frame (wpE (defs₀ (F := F)) Variants.none (c : Thread nD τ) none) Set.univ (k (loaded X l v)) Q)
            -∗ wp frame (wpE (defs₀ (F := F)) Variants.none (c : Thread nD τ) none) Set.univ (loadBlocks xM l v k) Q)
  | [], v => by
    iintro H Hk
    iapply Hk
    iexact H
  | b :: l, v => by
    iintro H Hk
    iapply (wp_load Variants.none (c : Thread nD τ) none Set.univ (m := xM) (r := (blkRect b).toLoadRect) (Finset.subset_univ _)) $$ H
    iintro H
    iapply (wp_loadBlocks c q X Q k l) $$ H
    iexact Hk

/-- The columns stored, one by one, each after a load of it. -/
theorem wp_putCols {α : Type} (c : Dev nD) (a : Memref sig .tc .vmem S512x16 .f32) (f : ℕ → FVec F S512x1 .f32)
    (Q : α → sProp 𝕄) (k : Prog (TpuEff nD τ sig (Elt F) Λ₀ .tc) α) :
    ∀ (l : List (Fin 16)) (g : Buf (Elt F) (a.view.loc (c : Thread nD τ))),
      (a.view.loc (c : Thread nD τ) ↦{fullShare} g : sProp 𝕄)
        ⊢ iprop(((a.view.loc (c : Thread nD τ) ↦{fullShare} (filled a f l g))
              -∗ wp frame (wpE (defs₀ (F := F)) Variants.none (c : Thread nD τ) none) Set.univ k Q)
            -∗ wp frame (wpE (defs₀ (F := F)) Variants.none (c : Thread nD τ) none) Set.univ (putCols a f l k) Q)
  | [], g => by
    iintro H Hk
    iapply Hk
    iexact H
  | j :: l, g => by
    iintro H Hk
    iapply (wp_load Variants.none (c : Thread nD τ) none Set.univ (m := a) (r := (colRect j).toLoadRect) (Finset.subset_univ _)) $$ H
    iintro H
    iapply (wp_store Variants.none (c : Thread nD τ) none Set.univ (m := a) (r := colRect j) (Mk := Finset.univ) (Finset.subset_univ _)) $$ H
    iintro H
    iapply (wp_putCols c a f Q k l) $$ H
    iexact Hk

end Loops

end Cert.KernelIdeal.Top

end
-- ==== Proof.IdealPlan.lean ====
/-
# The plan of the exchange

Four devices share a `y` axis. Each tells its three peers that it is ready, waits until all three have
told it the same, sends each its own sixteen best values, and receives theirs. Here: who the peers
are, what every buffer holds at every step, which semaphore cell carries which promise, and what each
device still owes while it waits.
-/
module

public import proofs.«01_k».proof.Proof.IdealLoops
public import Idealize.ShloMosaic.Lib.ShareLeaves

@[expose] public section

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's own copy and the exchange's, whose duties at a cell are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The peers -/

/-- The device `d + 1` places further along the `y` axis. -/
def peer (c : Dev nD) (d : Fin 3) : Dev nD :=
  ⟨16 * (c.val / 16) + (c.val / 4 % 4 + d.val + 1) % 4 * 4 + c.val % 4, by have : c.val < 32 := c.isLt; show _ < 32; omega⟩

/-- Going `d + 1` places on and then `3 - d` more is going once around. -/
theorem peer_rev (c : Dev nD) (d : Fin 3) : peer (peer c d) d.rev = c := by revert c d; decide
theorem rev_peer (c : Dev nD) (d : Fin 3) : peer (peer c d.rev) d = c := by revert c d; decide

/-- The kernel's own arithmetic names those devices, for its signals -/
theorem signalTo_eq (c : Dev nD) (d : Fin 3) : signalTo c d = peer c d := by revert c d; decide +kernel
/-- and for its transfers. -/
theorem sendTo_eq (c : Dev nD) (d : Fin 3) : sendTo c d = peer c d := by revert c d; decide +kernel

/-- The step along the axis, as a rearrangement of the devices. -/
def along (d : Fin 3) : Dev nD ≃ Dev nD := ⟨fun c => peer c d, fun c => peer c d.rev, fun c => peer_rev c d, fun c => rev_peer c d⟩

/-! ## The cells -/

abbrev sentSem (s : Fin 3) : DmaSem sig := semAt cc0_scratch2 s
abbrev landSem (s : Fin 3) : DmaSem sig := semAt cc0_scratch3 s

abbrev barCell (c : Dev nD) : GSem nD τ sig := ((c : Thread nD τ), .reg bar)
abbrev sentCell (c : Dev nD) (s : Fin 3) : GSem nD τ sig := ((c : Thread nD τ), .dma (sentSem s))
abbrev landCell (c : Dev nD) (s : Fin 3) : GSem nD τ sig := ((c : Thread nD τ), .dma (landSem s))

/-- The semaphores of the kernel's own scratch: three for what it sent, three for what landed; -/
abbrev osem : Fin 3 ⊕ Fin 3 → SemLoc sig
  | .inl s => .dma (sentSem s)
  | .inr s => .dma (landSem s)
/-- and with the handshake's. -/
abbrev csem : Unit ⊕ (Fin 3 ⊕ Fin 3) → SemLoc sig
  | .inl _ => .reg bar
  | .inr k => osem k
abbrev kcell (ck : Dev nD × (Unit ⊕ (Fin 3 ⊕ Fin 3))) : GSem nD τ sig := ((ck.1 : Thread nD τ), csem ck.2)

/-- What a semaphore is for. -/
inductive Role where
  | handshake
  | sent (s : Fin 3)
  | land (s : Fin 3)
  | other
  deriving DecidableEq

/-- The use of each semaphore. -/
def role (l : SemLoc sig) : Role :=
  if l = .reg bar then .handshake
  else if l = .dma (sentSem 0) then .sent 0 else if l = .dma (sentSem 1) then .sent 1 else if l = .dma (sentSem 2) then .sent 2
  else if l = .dma (landSem 0) then .land 0 else if l = .dma (landSem 1) then .land 1 else if l = .dma (landSem 2) then .land 2
  else .other

theorem role_bar : role (.reg bar) = .handshake := by decide
theorem role_sent (s : Fin 3) : role (.dma (sentSem s)) = .sent s := by revert s; decide
theorem role_land (s : Fin 3) : role (.dma (landSem s)) = .land s := by revert s; decide

/-- What one transfer credits: the bytes of one landing slot. -/
abbrev N : ℕ := (slot cM 0).view.dmaCredit
theorem N_pos : 0 < N := View.dmaCredit_pos _ (by decide)
theorem slot_credit (s : Fin 3) : (slot cM s).view.dmaCredit = N := rfl
theorem local_credit : lM.view.dmaCredit = N := by decide

/-! ## Contents -/

/-- Device `c`'s input block, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s own answer: the sixteen best of its own columns. -/
def localAt (c : Dev nD) : (cc0_scratch0 : Ref sig .tc).ty.Contents (Elt F) :=
  colsOf fun k => shapeCast S512x1 (own (blocks (xstg m ρ c)) k) shapeCasts_S512x1_S512x1

/-- What lands in slot `s` of device `c`: the own answer of the device it comes from. -/
def landAt (c : Dev nD) (s : Fin 3) : FVec F S512x16 .f32 := localAt m ρ (peer c s.rev)

/-- Device `c`'s result: its own answer merged with the three that landed. -/
def outAt (c : Dev nD) : (cc0_stg1_0 : Ref sig .tc).ty.Contents (Elt F) :=
  colsOf (merged ![localAt m ρ c, landAt m ρ c 0, landAt m ρ c 1, landAt m ρ c 2])

/-- Landing slot `s` of device `c`, holding what `f` has there. -/
def slotPts (c : Dev nD) (s : Fin 3) (f : Buf (Elt F) ((slot cM s).view.loc (c : Thread nD τ))) : sProp 𝕄 :=
  (slot cM s).view.loc (c : Thread nD τ) ↦[(slot cM s).view.set]{fullShare} f
/-- A share of device `c`'s own answer. -/
def localPts (c : Dev nD) (q : PosShare TreeShare) : sProp 𝕄 :=
  lM.view.loc (c : Thread nD τ) ↦[lM.view.set]{q} localAt m ρ c

/-- The four quarters of a buffer: three lent to the transfers, one kept to read by. -/
abbrev quarter (i : Fin 4) : PosShare TreeShare := ShareLeaves.leaf 2 fullShare i

instance slotPts_storable (c : Dev nD) (s : Fin 3) (f) : BI.Storable (upEmb : UEmb _ 𝕄) (slotPts (F := F) c s f) := by
  unfold slotPts; infer_instance
instance localPts_storable (c : Dev nD) (q : PosShare TreeShare) : BI.Storable (upEmb : UEmb _ 𝕄) (localPts (F := F) m ρ c q) := by
  unfold localPts; infer_instance

/-! ## The schedule -/

/-- What the peer `s` tells `c` by its signal: here is my slot `s` to write, and its cell has not been credited yet. -/
def barPay (c : Dev nD) (s : Fin 3) : sProp 𝕄 := iprop((∃ f, slotPts (peer c s) s f) ∗ reached ER (landCell (peer c s) s) 0)
/-- What the credit of a landing cell says: the slot holds its sender's own answer. -/
def landPay (c : Dev nD) (s : Fin 3) : sProp 𝕄 :=
  iprop(∃ f, ⌜(slot cM s).view.read (Elt F) f = landAt m ρ c s⌝ ∗ slotPts c s f)
/-- What the credit of a sent cell says: the lent share is back. -/
def sentPay (c : Dev nD) (s : Fin 3) : sProp 𝕄 := localPts m ρ c (quarter s.castSucc)

/-- One round. A handshake cell has three duties of one unit, one per peer; a transfer's cell has one, of the slot's bytes. -/
def plan : Rounds.Schedule (GSem nD τ sig) (Fin 3) 𝕄 where
  duties g r := if r = 0 ∧ g.1.2 = .tc then (match role g.2 with
    | .handshake => Finset.univ
    | .sent _ => {0}
    | .land _ => {0}
    | .other => ∅) else ∅
  unitless _ := False
  amount g _ _ := match role g.2 with
    | .handshake => 1
    | _ => N
  payload g _ d := match role g.2 with
    | .handshake => barPay g.1.1 d
    | .sent s => sentPay m ρ g.1.1 s
    | .land s => landPay m ρ g.1.1 s
    | .other => iprop(emp)
  amount_pos g _ _ _ := by
    cases role g.2 <;> first | exact Nat.one_pos | exact N_pos

instance plan_storable (g : GSem nD τ sig) (r : ℕ) (d : Fin 3) : BI.Storable (upEmb : UEmb _ 𝕄) ((plan (F := F) m ρ).payload g r d) := by
  show BI.Storable upEmb (match role g.2 with
    | .handshake => barPay g.1.1 d
    | .sent s => sentPay m ρ g.1.1 s
    | .land s => landPay m ρ g.1.1 s
    | .other => iprop(emp))
  unfold barPay landPay sentPay
  split <;> infer_instance

section Sched
variable (c : Dev nD) (s : Fin 3)

theorem duties_bar : (plan (F := F) m ρ).duties (barCell c) 0 = Finset.univ := by
  dsimp only [plan]; rw [if_pos ⟨rfl, rfl⟩, role_bar]
theorem duties_sent : (plan (F := F) m ρ).duties (sentCell c s) 0 = {0} := by
  dsimp only [plan]; rw [if_pos ⟨rfl, rfl⟩, role_sent]
theorem duties_land : (plan (F := F) m ρ).duties (landCell c s) 0 = {0} := by
  dsimp only [plan]; rw [if_pos ⟨rfl, rfl⟩, role_land]
theorem duties_later (g : GSem nD τ sig) : ∀ r, 1 ≤ r → (plan (F := F) m ρ).duties g r = ∅ :=
  fun r hr => by dsimp only [plan]; rw [if_neg fun h => by omega]

theorem amount_bar (d : Fin 3) : (plan (F := F) m ρ).amount (barCell c) 0 d = 1 := by dsimp only [plan]; rw [role_bar]
theorem amount_sent (d : Fin 3) : (plan (F := F) m ρ).amount (sentCell c s) 0 d = N := by dsimp only [plan]; rw [role_sent]
theorem amount_land (d : Fin 3) : (plan (F := F) m ρ).amount (landCell c s) 0 d = N := by dsimp only [plan]; rw [role_land]

theorem expect_bar : (plan (F := F) m ρ).expect (barCell c) 0 = 3 := by
  unfold Schedule.expect Schedule.amountOf
  rw [duties_bar, Finset.sum_congr rfl fun d _ => amount_bar m ρ c d]; rfl
theorem expect_sent : (plan (F := F) m ρ).expect (sentCell c s) 0 = N := by
  unfold Schedule.expect Schedule.amountOf; rw [duties_sent, Finset.sum_singleton, amount_sent]
theorem expect_land : (plan (F := F) m ρ).expect (landCell c s) 0 = N := by
  unfold Schedule.expect Schedule.amountOf; rw [duties_land, Finset.sum_singleton, amount_land]

theorem payload_bar (d : Fin 3) : (plan (F := F) m ρ).payload (barCell c) 0 d = barPay c d := by dsimp only [plan]; rw [role_bar]
theorem payload_sent (d : Fin 3) : (plan (F := F) m ρ).payload (sentCell c s) 0 d = sentPay m ρ c s := by dsimp only [plan]; rw [role_sent]
theorem payload_land (d : Fin 3) : (plan (F := F) m ρ).payload (landCell c s) 0 d = landPay m ρ c s := by dsimp only [plan]; rw [role_land]

/-- All a handshake cell pays: every peer's slot. -/
theorem rest_bar : bigSep ((plan (F := F) m ρ).duties (barCell c) 0 \ ∅) (fun d => (plan (F := F) m ρ).payload (barCell c) 0 d)
    = bigSep Finset.univ fun s => barPay (F := F) c s := by
  rw [Finset.sdiff_empty, duties_bar]; exact bigSep_congr fun d _ => payload_bar m ρ c d
theorem rest_sent : bigSep ((plan (F := F) m ρ).duties (sentCell c s) 0 \ ∅) (fun d => (plan (F := F) m ρ).payload (sentCell c s) 0 d)
    = sentPay m ρ c s := by
  rw [Finset.sdiff_empty, duties_sent, bigSep_singleton, payload_sent]
theorem rest_land : bigSep ((plan (F := F) m ρ).duties (landCell c s) 0 \ ∅) (fun d => (plan (F := F) m ρ).payload (landCell c s) 0 d)
    = landPay m ρ c s := by
  rw [Finset.sdiff_empty, duties_land, bigSep_singleton, payload_land]

end Sched

/-! ## What a device owes, and the levels of its waits -/

/-- The credit of its `s`-th transfer; -/
abbrev owesLand (c : Dev nD) (s : Fin 3) : CellTallies nD τ sig Unit := tallyAt (landCell (peer c s) s) () N
/-- the unit of its `d`-th signal. -/
abbrev owesBar (c : Dev nD) (d : Fin 3) : CellTallies nD τ sig Unit := tallyAt (barCell (peer c d)) () 1
/-- From the handshake on: the three transfers, the first to go last in the sum. -/
def O₁ (c : Dev nD) : CellTallies nD τ sig Unit := 0 + owesLand c 2 + owesLand c 1 + owesLand c 0
/-- At the start: the three signals too. -/
def O₀ (c : Dev nD) : CellTallies nD τ sig Unit := O₁ c + owesBar c 2 + owesBar c 1 + owesBar c 0

def L (g : GSem nD τ sig) : Finset Unit := if g.1.2 = .tc then {()} else ∅
/-- A device waits for staging and for what it sent at level 0, at the handshake at level 1, for what lands at level 2. -/
def level (l : SemLoc sig) : ℕ := match role l with
  | .handshake => 1
  | .land _ => 2
  | _ => 0
def lv (g : GSem nD τ sig) (_ : Unit) : ℕ := level g.2

theorem L_of_ne (g : GSem nD τ sig) (h : g.1.2 ≠ .tc) : L g = ∅ := if_neg h
theorem L_tc (g : GSem nD τ sig) (h : g.1.2 = .tc) (u : Unit) : u ∈ L g := by
  unfold L; rw [if_pos h]; exact Finset.mem_singleton_self _

/-- Every cell owed to is on a TensorCore, above the level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {A B : CellTallies nD τ sig Unit} (hA : Above n A) (hB : Above n B) : Above n (A + B) := fun g u h => by
  rw [Pi.add_apply, Finsupp.add_apply] at h
  rcases Nat.eq_zero_or_pos (A g u) with hz | hp
  · exact hB g u (by omega)
  · exact hA g u hp
theorem above_tally {n : ℕ} {g : GSem nD τ sig} (k : ℕ) (h₁ : g.1.2 = .tc) (h₂ : n < lv g ()) : Above n (tallyAt g () k) := fun g' u h => by
  rw [tallyAt_apply] at h
  by_cases hg : g' = g ∧ u = ()
  · rw [hg.1]; exact ⟨h₁, h₂⟩
  · rw [if_neg hg] at h; exact absurd h (Nat.lt_irrefl 0)

theorem lv_bar (c : Dev nD) : lv (barCell c) () = 1 := by dsimp only [lv, level]; rw [role_bar]
theorem lv_land (c : Dev nD) (s : Fin 3) : lv (landCell c s) () = 2 := by dsimp only [lv, level]; rw [role_land]

theorem above_O₁ (c : Dev nD) : Above 1 (O₁ c) :=
  have h (s : Fin 3) : Above 1 (owesLand c s) := above_tally N rfl (by rw [lv_land]; decide)
  above_add (above_add (above_add (above_zero 1) (h 2)) (h 1)) (h 0)
theorem above_O₀ (c : Dev nD) : Above 0 (O₀ c) :=
  have h (s : Fin 3) : Above 0 (owesBar c s) := above_tally 1 rfl (by rw [lv_bar]; decide)
  have h₁ : Above 0 (O₁ c) := fun g u hg => ⟨(above_O₁ c g u hg).1, lt_trans Nat.zero_lt_one (above_O₁ c g u hg).2⟩
  above_add (above_add (above_add h₁ (h 2)) (h 1)) (h 0)

/-- A device may wait on a cell no higher than `n` while all it owes is above `n`. -/
theorem mayWait_of (c : Dev nD) (sm : SemLoc sig) (n : ℕ) (O : CellTallies nD τ sig Unit) (hs : lv ((c : Thread nD τ), sm) () ≤ n)
    (hO : Above n O) : (levAts L lv : sProp 𝕄) ⊢ MayWait (c : Thread nD τ) sm () O :=
  MayOwe.of_cut (L := L) (lev := lv) n (fun p hp => by rw [Finset.mem_singleton.mp hp]; exact L_tc _ rfl _)
    (fun g u hg => L_tc g (hO g u hg).1 u)
    (fun p hp => by rw [Finset.mem_singleton.mp hp]; exact hs)
    (fun g u hg => (hO g u hg).2)

end Cert.KernelIdeal.Top

end
-- ==== Proof.IdealRun.lean ====
/-
# The kernel's run

The body executed step by step under the plan, the launch of the thirty-two devices, and what a run
leaves: every device's result holds its merged answer, its input is unchanged, every semaphore is at zero.
-/
module

public import proofs.«01_k».proof.Proof.IdealPlan
public import Idealize.ShloMosaic.Lib.Pipeline.CollectiveSegs

@[expose] public section

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The index of the cells of one device. -/
abbrev Cells : Type := Unit ⊕ (Fin 3 ⊕ Fin 3)

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_cells (Φ : Cells → sProp 𝕄) : bigSep Finset.univ Φ
    = iprop(Φ (.inl ()) ∗ (bigSep Finset.univ fun s => Φ (.inr (.inl s))) ∗ bigSep Finset.univ fun s => Φ (.inr (.inr s))) := by
  rw [bigSep_univ_sum, bigSep_univ_sum, bigSep_univ_of_subsingleton ()]; rfl

/-! ## What a device starts from -/

/-- Every cell's invariant, under the names `K`, and that every cell is at its first round. -/
def records (K : Dev nD × Cells → ℕ) : sProp 𝕄 :=
  iprop((bigSep Finset.univ fun ck : Dev nD × Cells => cellInv ER (plan m ρ) (K ck) (kcell ck))
    ∗ bigSep Finset.univ fun ck : Dev nD × Cells => reached ER (kcell ck) 0)

instance records_persistent (K : Dev nD × Cells → ℕ) : BI.Persistent (records m ρ K) := by unfold records; infer_instance

theorem inv_at (K : Dev nD × Cells → ℕ) (ck : Dev nD × Cells) : records m ρ K ⊢ cellInv ER (plan m ρ) (K ck) (kcell ck) := by
  unfold records; exact sep_elim_left.trans (bigSep_elim (Finset.mem_univ ck))
theorem reached_at (K : Dev nD × Cells → ℕ) (ck : Dev nD × Cells) : records m ρ K ⊢ reached ER (kcell ck) 0 := by
  unfold records; exact sep_elim_right.trans (bigSep_elim (Finset.mem_univ ck))

/-- A device's places at its own seven cells, -/
def places (c : Dev nD) : sProp 𝕄 := bigSep Finset.univ fun k : Cells => atPos ER (kcell (c, k)) 0 ∅ 0
/-- and the tokens of the duties it pays: one at each peer's handshake cell, one at each landing cell it sends to, one at
    each of its own sent cells. -/
def payToks (c : Dev nD) : sProp 𝕄 :=
  iprop((bigSep Finset.univ fun s : Fin 3 => dutyTok ER (barCell (peer c s)) 0 s.rev)
    ∗ (bigSep Finset.univ fun s : Fin 3 => dutyTok ER (landCell (peer c s) s) 0 0)
    ∗ bigSep Finset.univ fun s : Fin 3 => dutyTok ER (sentCell c s) 0 0)

/-- The launch credits a device waits with, at the handshake and at each landing cell. -/
def credits (c : Dev nD) : sProp 𝕄 :=
  iprop(cred (tallyAt (barCell c) () 3) ∗ bigSep Finset.univ fun s : Fin 3 => cred (tallyAt (landCell c s) () N))

def ghost (K : Dev nD × Cells → ℕ) (c : Dev nD) : sProp 𝕄 := iprop(records m ρ K ∗ places c ∗ payToks c)

def start (c : Dev nD) : sProp 𝕄 := iprop((∃ K, ghost m ρ K c) ∗ credits c ∗ levAts L lv)

/-- The two scratch buffers, holding anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the body: the scratch buffers, and every cell closed at zero. -/
def Φ₁ (c : Dev nD) : sProp 𝕄 := iprop(scratch c ∗ bigSep Finset.univ fun k : Cells => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-! ## The body, one step at a time -/

section Steps

variable (K : Dev nD × Cells → ℕ)

/-- What device `c` still owes, whatever it has waited for. -/
def holds (c : Dev nD) (O : CellTallies nD τ sig Unit) : sProp 𝕄 := iprop(∃ W, owes (c : Thread nD τ) O W)

/-- The `d`-th signal: a peer is handed the slot it will write. -/
theorem wp_signal_step {α : Type} {Q : α → sProp 𝕄} (c : Dev nD) (d : Fin 3) (n : Dev nD) (hn : n = peer c d) (k' : ℕ) (hk' : k' = 1)
    (O : CellTallies nD τ sig Unit) (k : PUnit → Prog (TpuEff nD τ sig (Elt F) Λ₀ .tc) α) :
    iprop(records m ρ K ∗ holds c (O + owesBar c d) ∗ dutyTok ER (barCell (peer c d)) 0 d.rev ∗ (∃ f, slotPts (F := F) c d.rev f))
      ⊢ iprop((holds c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) bar k') k) Q) := by
  subst hn hk'
  unfold holds
  iintro ⟨#HR, ⟨%W, HO⟩, Ht, ⟨%f, Hs⟩⟩ Hk
  iapply (Rounds.wp_signal 𝒱₀ ER (plan m ρ) (c : Thread nD τ) none (dst := (peer c d : Thread nD τ)) (κ := K (peer c d, .inl ()))
      (d := d.rev) (by rw [duties_bar]; exact Finset.mem_univ _) (amount_bar m ρ (peer c d) d.rev) () O rfl (W := W)) $$ [HO Ht Hs]
  · isplitr; · iapply (inv_at m ρ K (peer c d, .inl ())); iexact HR
    isplitl [HO]; · iexact HO
    isplitl [Ht]; · iexact Ht
    isplitl [Hs]
    · rw [payload_bar]; unfold barPay; rw [peer_rev]
      isplitl [Hs]; · iexists f; iexact Hs
      iapply (reached_at m ρ K (c, .inr (.inr d.rev))); iexact HR
    · iapply (reached_at m ρ K (peer c d, .inl ())); iexact HR
  iintro HO
  iapply Hk; iexists W; iexact HO

/-- A transfer read by the slot it landed in is the answer that was sent. -/
theorem landed_read (c : Dev nD) (s : Fin 3) (fd : Buf (Elt F) ((slot cM s).view.loc (peer c s : Thread nD τ))) :
    (slot cM s).view.read (Elt F) ((slot cM s).view.write (Elt F) fd (lM.view.read (Elt F) (localAt m ρ c)) Finset.univ)
      = landAt m ρ (peer c s) s := by
  rw [View.read_write_univ]
  unfold landAt
  rw [peer_rev]
  show (View.whole cc0_scratch0).read (Elt F) _ = _
  rw [View.read_whole]

/-- The `s`-th transfer: a quarter of the own answer lent, the peer's slot given over. -/
theorem wp_send_step {α : Type} {Q : α → sProp 𝕄} (c : Dev nD) (s : Fin 3) (n : Dev nD) (hn : n = peer c s) (O : CellTallies nD τ sig Unit)
    (k : PUnit → Prog (TpuEff nD τ sig (Elt F) Λ₀ .tc) α) :
    iprop(records m ρ K ∗ holds c (O + owesLand c s) ∗ localPts m ρ c (quarter s.castSucc) ∗ (∃ f, slotPts (F := F) (peer c s) s f)
        ∗ dutyTok ER (sentCell c s) 0 0 ∗ dutyTok ER (landCell (peer c s) s) 0 0)
      ⊢ iprop(((cred (tallyAt (sentCell c s) () N) ∗ holds c O) -∗ wp frame (wpE (defs₀ (F := F)) 𝒱₀ (c : Thread nD τ) none) Set.univ (k ⟨⟩) Q)
          -∗ wp frame (wpE (defs₀ (F := F)) 𝒱₀ (c : Thread nD τ) none) Set.univ
              (sendOp lM (Memref.isWhole_whole _) cM cc0_scratch2 cc0_scratch3 n s k) Q) := by
  subst hn
  unfold holds
  iintro ⟨#HR, ⟨%W, HO⟩, Hl, ⟨%f, Hs⟩, Ht, Ht'⟩ Hk
  iapply (show iprop(cellInv ER (plan m ρ) (K (c, .inr (.inl s))) (sentCell c s)
        ∗ cellInv ER (plan m ρ) (K (peer c s, .inr (.inr s))) (landCell (peer c s) s)
        ∗ localPts m ρ c (quarter s.castSucc) ∗ slotPts (F := F) (peer c s) s f
        ∗ owes (c : Thread nD τ) (O + owesLand c s) W
        ∗ dutyTok ER (sentCell c s) 0 0 ∗ reached ER (sentCell c s) 0
        ∗ dutyTok ER (landCell (peer c s) s) 0 0 ∗ reached ER (landCell (peer c s) s) 0)
      ⊢ iprop(((cred (tallyAt (sentCell c s) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (sendOp lM (Memref.isWhole_whole _) cM cc0_scratch2 cc0_scratch3 (peer c s) s k) Q) from by
      unfold localPts slotPts
      exact Rounds.wp_send_pointsTo 𝒱₀ ER (plan m ρ) (c : Thread nD τ) none
        (κ₁ := K (c, .inr (.inl s))) (κ₂ := K (peer c s, .inr (.inr s)))
        (r₁ := 0) (r₂ := 0) (d₁ := 0) (d₂ := 0) (fd := f)
        (by rw [duties_sent]; exact Finset.mem_singleton_self _) (by rw [duties_land]; exact Finset.mem_singleton_self _)
        () () N rfl (amount_sent m ρ c s 0) (amount_land m ρ (peer c s) s 0) O rfl (W := W)
        (by rw [payload_sent]; exact BI.Entails.refl _)
        (by
          rw [payload_land]; unfold landPay slotPts
          iintro H
          iexists _
          isplitr; · ipureintro; exact landed_read m ρ c s f
          iexact H)) $$ [HO Hl Hs Ht Ht']
  · isplitr; · iapply (inv_at m ρ K (c, .inr (.inl s))); iexact HR
    isplitr; · iapply (inv_at m ρ K (peer c s, .inr (.inr s))); iexact HR
    isplitl [Hl]; · iexact Hl
    isplitl [Hs]; · iexact Hs
    isplitl [HO]; · iexact HO
    isplitl [Ht]; · iexact Ht
    isplitr; · iapply (reached_at m ρ K (c, .inr (.inl s))); iexact HR
    isplitl [Ht']; · iexact Ht'
    iapply (reached_at m ρ K (peer c s, .inr (.inr s))); iexact HR
  iintro ⟨Hc, HO⟩
  iapply Hk
  isplitl [Hc]; · iexact Hc
  iexists W; iexact HO

/-- A wait at one of the device's own cells, for all of its round: the round's payloads. -/
theorem wp_wait_step {α : Type} {Q : α → sProp 𝕄} (c : Dev nD) (j : Cells) (w : TpuEff nD τ sig (Elt F) Λ₀ .tc PUnit) (n : ℕ)
    (hw : ∀ R : PUnit → sProp 𝕄, wpE (defs₀ (F := F)) 𝒱₀ (c : Thread nD τ) none Set.univ w R
      = waitSpec (c : Thread nD τ) Set.univ (csem j) n R)
    (hn : n = (plan (F := F) m ρ).expect (kcell (c, j)) 0) (O : CellTallies nD τ sig Unit) (hO : Above (lv (kcell (c, j)) ()) O)
    (k : PUnit → Prog (TpuEff nD τ sig (Elt F) Λ₀ .tc) α) :
    iprop(records m ρ K ∗ levAts L lv ∗ cred (tallyAt (kcell (c, j)) () n) ∗ holds c O ∗ atPos ER (kcell (c, j)) 0 ∅ 0)
      ⊢ iprop(((holds c O ∗ atPos ER (kcell (c, j)) 1 ∅ 0
              ∗ bigSep ((plan (F := F) m ρ).duties (kcell (c, j)) 0 \ ∅) (fun d => (plan (F := F) m ρ).payload (kcell (c, j)) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold holds
  iintro ⟨#HR, #Hlev, Hc, ⟨%W, HO⟩, Hat⟩ Hk
  iapply (Rounds.wp_wait_rest_token 𝒱₀ ER (plan m ρ) (c : Thread nD τ) none (κ := K (c, j)) hw (Set.mem_univ _) () (O := O) (W := W)
      (R := 0) (m := 0) (T := ∅) (by rw [Nat.zero_add]; exact hn)) $$ [Hc HO Hat]
  · isplitr; · iapply (inv_at m ρ K (c, j)); iexact HR
    isplitl [Hc]; · iexact Hc
    isplitl [HO]; · iexact HO
    isplitr; · iapply (mayWait_of c (csem j) (lv (kcell (c, j)) ()) O (le_refl _) hO); iexact Hlev
    iexact Hat
  iintro ⟨HO, Hat, -, Hpay⟩
  iapply Hk
  isplitl [HO]; · iexists _; iexact HO
  isplitl [Hat]; · iexact Hat
  iexact Hpay

/-- The wait for what lands in slot `s`. -/
theorem wp_land_step {α : Type} {Q : α → sProp 𝕄} (c : Dev nD) (s : Fin 3) (k : PUnit → Prog (TpuEff nD τ sig (Elt F) Λ₀ .tc) α) :
    iprop(records m ρ K ∗ levAts L lv ∗ cred (tallyAt (landCell c s) () N) ∗ holds c 0 ∗ atPos ER (landCell c s) 0 ∅ 0)
      ⊢ iprop(((holds c 0 ∗ atPos ER (landCell c s) 1 ∅ 0 ∗ landPay m ρ c s)
            -∗ wp frame (wpE (defs₀ (F := F)) 𝒱₀ (c : Thread nD τ) none) Set.univ (k ⟨⟩) Q)
          -∗ wp frame (wpE (defs₀ (F := F)) 𝒱₀ (c : Thread nD τ) none) Set.univ
              (recvOp lM (Memref.isWhole_whole _) cM cc0_scratch3 s k) Q) := by
  have h := wp_wait_step m ρ K (Q := Q) c (.inr (.inr s)) (.waitDma2 (landSem s) lM (slot cM s) (Memref.isWhole_whole _).wordExact
    ((View.wordExact_bits rfl).reshape _ _)) N (wpE_waitDma2_eq 𝒱₀ (c : Thread nD τ) none Set.univ) (expect_land m ρ c s).symm 0 (above_zero _) k
  rw [show kcell (c, .inr (.inr s)) = landCell c s from rfl, rest_land] at h
  exact h

/-- The wait for the `s`-th transfer to have left. -/
theorem wp_sent_step {α : Type} {Q : α → sProp 𝕄} (c : Dev nD) (s : Fin 3) (k : PUnit → Prog (TpuEff nD τ sig (Elt F) Λ₀ .tc) α) :
    iprop(records m ρ K ∗ levAts L lv ∗ cred (tallyAt (sentCell c s) () N) ∗ holds c 0 ∗ atPos ER (sentCell c s) 0 ∅ 0)
      ⊢ iprop(((holds c 0 ∗ atPos ER (sentCell c s) 1 ∅ 0 ∗ sentPay m ρ c s)
            -∗ wp frame (wpE (defs₀ (F := F)) 𝒱₀ (c : Thread nD τ) none) Set.univ (k ⟨⟩) Q)
          -∗ wp frame (wpE (defs₀ (F := F)) 𝒱₀ (c : Thread nD τ) none) Set.univ
              (sentOp lM (Memref.isWhole_whole _) cM cc0_scratch2 s k) Q) := by
  have h := wp_wait_step m ρ K (Q := Q) c (.inr (.inl s)) (.waitDma2 (sentSem s) (slot cM s) lM ((View.wordExact_bits rfl).reshape _ _)
    (Memref.isWhole_whole _).wordExact) N
    (fun R => (wpE_waitDma2_eq 𝒱₀ (c : Thread nD τ) none Set.univ R).trans (by rw [local_credit])) (expect_sent m ρ c s).symm 0 (above_zero _) k
  rw [show kcell (c, .inr (.inl s)) = sentCell c s from rfl, rest_sent] at h
  exact h

/-- A cell whose round is over closes, its counter at zero. -/
theorem close_cell (c : Dev nD) (j : Cells) :
    iprop(records m ρ K ∗ atPos ER (kcell (c, j)) 1 ∅ 0) ⊢ (|={Set.univ}=> semVal (kcell (c, j)) 0 : sProp 𝕄) :=
  (sep_mono_left (inv_at m ρ K (c, j))).trans
    (Rounds.cell_close ER (plan m ρ) (Set.mem_univ (K (c, j))) (fun h => h) (R := 1) (duties_later m ρ _))

/-- The load of a slot that holds what landed. -/
theorem wp_slot_step {α : Type} {Q : α → sProp 𝕄} (c : Dev nD) (s : Fin 3) (k : FVec F S512x16 .f32 → Prog (TpuEff nD τ sig (Elt F) Λ₀ .tc) α) :
    landPay m ρ c s
      ⊢ iprop(((∃ f, slotPts (F := F) c s f)
            -∗ wp frame (wpE (defs₀ (F := F)) 𝒱₀ (c : Thread nD τ) none) Set.univ (k (landAt m ρ c s)) Q)
          -∗ wp frame (wpE (defs₀ (F := F)) 𝒱₀ (c : Thread nD τ) none) Set.univ (slotOp cM s k) Q) := by
  unfold landPay slotPts
  iintro ⟨%f, %hf, H⟩ Hk
  iapply (wp_load_rect 𝒱₀ (c : Thread nD τ) none Set.univ (m := cM) (r := slotRect s) (S := (slot cM s).view.set)
    (by rw [slot_set]; exact (View.set_slice_whole _ _).le)) $$ H
  iintro H
  rw [show shapeCast S512x16 ((cM.access (slotRect s)).read (Elt F) f) shapeCasts_S1x512x16_S512x16 = landAt m ρ c s
    from (slot_read s f).trans hf]
  iapply Hk; iexists f; iexact H

theorem zeros : (![0, 0] : Fin 2 → Nat) = fun _ => 0 := funext fun a => by fin_cases a <;> rfl

/-- The load of the own answer by the quarter kept. -/
theorem wp_local_step {α : Type} {Q : α → sProp 𝕄} (c : Dev nD) (q : PosShare TreeShare) (k : Vec F S512x16 .f32 → Prog (TpuEff nD τ sig (Elt F) Λ₀ .tc) α) :
    localPts m ρ c q
      ⊢ iprop((localPts m ρ c q
            -∗ wp frame (wpE (defs₀ (F := F)) 𝒱₀ (c : Thread nD τ) none) Set.univ (k (localAt m ρ c)) Q)
          -∗ wp frame (wpE (defs₀ (F := F)) 𝒱₀ (c : Thread nD τ) none) Set.univ
              (.op (.load lM (Rect.unit (s := S512x16) ![0, 0] S512x16.size inb_S512x16_S512x16_0_0).toLoadRect (View.loadsAt_vmem h_S512x16)) k) Q) := by
  unfold localPts
  iintro H Hk
  iapply (wp_load 𝒱₀ (c : Thread nD τ) none Set.univ (m := lM) (by rw [View.set_whole]; exact Finset.subset_univ _)) $$ H
  iintro H
  rw [show lM.view.readAt (Elt F) (Rect.unit (s := S512x16) ![0, 0] S512x16.size inb_S512x16_S512x16_0_0).toLoadRect (localAt m ρ c) = localAt m ρ c
    from Memref.readAt_unit_zero (Elt F) cc0_scratch0 zeros _ _]
  iapply Hk; iexact H

/-- The own answer held whole is its four quarters. -/
theorem local_quarters (c : Dev nD) :
    (((c : Thread nD τ).loc cc0_scratch0) ↦{fullShare} (localAt m ρ c) : sProp 𝕄)
      = iprop(localPts m ρ c (quarter 0) ∗ localPts m ρ c (quarter 1) ∗ localPts m ρ c (quarter 2) ∗ localPts m ρ c (quarter 3)) := by
  rw [ShareLeaves.pointsTo_leaves _ _ 2 fullShare, bigSep_four]
  unfold localPts
  rw [View.set_whole]

/-- The same of the buffer just filled. -/
theorem filled_quarters (c : Dev nD) :
    (lM.view.loc (c : Thread nD τ) ↦{fullShare} (colsOf fun k =>
        shapeCast S512x1 (own (loaded (xstg m ρ c) allBlocks fun _ => bottom S512x128) k) shapeCasts_S512x1_S512x1) : sProp 𝕄)
      = iprop(localPts m ρ c (quarter 0) ∗ localPts m ρ c (quarter 1) ∗ localPts m ρ c (quarter 2) ∗ localPts m ρ c (quarter 3)) :=
  local_quarters m ρ c

/-- The landing buffer is its three slots, -/
theorem comm_slots (c : Dev nD) (f : Buf (Elt F) ((c : Thread nD τ).loc cc0_scratch1)) :
    (((c : Thread nD τ).loc cc0_scratch1) ↦{fullShare} f : sProp 𝕄)
      = iprop(slotPts (F := F) c 0 f ∗ slotPts (F := F) c 1 f ∗ slotPts (F := F) c 2 f) := by
  unfold slotPts
  rw [slot_set, slot_set, slot_set, ← bigSep_three (F := F) fun s => (((c : Thread nD τ).loc cc0_scratch1) ↦[(slotRect s).set]{fullShare} f : sProp 𝕄),
    ← pointsTo_biUnion Finset.univ _ (fun s _ t _ h => slots_apart s t h), slots_cover]

/-- and the three slots, whatever each holds, are the landing buffer. -/
theorem slots_comm (c : Dev nD) :
    iprop((∃ f, slotPts (F := F) c 0 f) ∗ (∃ f, slotPts (F := F) c 1 f) ∗ (∃ f, slotPts (F := F) c 2 f))
      ⊢ (∃ f : Buf (Elt F) ((c : Thread nD τ).loc cc0_scratch1), ((c : Thread nD τ).loc cc0_scratch1) ↦{fullShare} f : sProp 𝕄) := by
  iintro ⟨⟨%f0, H0⟩, ⟨%f1, H1⟩, ⟨%f2, H2⟩⟩
  ihave H := (pointsTo_biUnion_join (Finset.univ : Finset (Fin 3)) (fun s => ((slotRect s).set : Finset (Idx ((c : Thread nD τ).loc cc0_scratch1)))) ![f0, f1, f2] f0
    (fun s _ t _ h => slots_apart s t h)) $$ [H0 H1 H2]
  · rw [bigSep_three]
    unfold slotPts
    rw [slot_set, slot_set, slot_set]
    isplitl [H0]; · iexact H0
    isplitl [H1]; · iexact H1
    iexact H2
  icases H with ⟨%g, -, H⟩
  rw [slots_cover]
  iexists g; iexact H

end Steps

/-! ## The whole body -/

section Body

variable (K : Dev nD × Cells → ℕ)

theorem bigSep_windows (Φ : Fin cfg0.W → sProp 𝕄) : bigSep Finset.univ Φ = iprop(Φ (0 : Fin 2) ∗ Φ (1 : Fin 2)) := bigSep_W0 Φ
def t₀ : Fin cfg0.N := t0_0
theorem all_t₀ (t : Fin cfg0.N) : t = t₀ := fin_N0 t

/-- A staging buffer of device `c` holding `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

def bodyPost (c : Dev nD) : sProp 𝕄 :=
  iprop(Φ₁ (F := F) c ∗ (dats m ρ 0 c).owesAt () t₀.succ ∗ staged c cc0_stg0_0 (xstg m ρ c) ∗ staged c cc0_stg1_0 (outAt m ρ c))

/-- After the handshake: every slot of a peer in hand, the rest of the body runs to its end. -/
theorem wp_afterBarrier (c : Dev nD) (Kt : PUnit → sProp 𝕄) (g : Buf (Elt F) ((c : Thread nD τ).loc cc0_stg1_0)) :
    iprop(records m ρ K ∗ levAts L lv ∗ holds c (O₁ c)
        ∗ (bigSep Finset.univ fun s : Fin 3 => cred (tallyAt (landCell c s) () N))
        ∗ (bigSep Finset.univ fun s : Fin 3 => atPos ER (sentCell c s) 0 ∅ 0)
        ∗ (bigSep Finset.univ fun s : Fin 3 => atPos ER (landCell c s) 0 ∅ 0)
        ∗ (bigSep Finset.univ fun s : Fin 3 => dutyTok ER (landCell (peer c s) s) 0 0)
        ∗ (bigSep Finset.univ fun s : Fin 3 => dutyTok ER (sentCell c s) 0 0)
        ∗ (bigSep Finset.univ fun s : Fin 3 => iprop(∃ f, slotPts (F := F) (peer c s) s f))
        ∗ (∃ f : Buf (Elt F) ((c : Thread nD τ).loc cc0_scratch0), ((c : Thread nD τ).loc cc0_scratch0) ↦{fullShare} f)
        ∗ (((c : Thread nD τ).loc cc0_stg0_0) ↦{fullShare} xstg m ρ c)
        ∗ (((c : Thread nD τ).loc cc0_stg1_0) ↦{fullShare} g)
        ∗ ((holds c 0 ∗ scratch (F := F) c
            ∗ (bigSep Finset.univ fun s : Fin 3 => semVal (sentCell c s) 0) ∗ (bigSep Finset.univ fun s : Fin 3 => semVal (landCell c s) 0)
            ∗ (((c : Thread nD τ).loc cc0_stg0_0) ↦{fullShare} xstg m ρ c)
            ∗ (((c : Thread nD τ).loc cc0_stg1_0) ↦{fullShare} outAt m ρ c)) -∗ Kt ⟨⟩))
      ⊢ wp frame (wpE (defs₀ (F := F)) 𝒱₀ (c : Thread nD τ) none) Set.univ
          (afterBarrier xM oM lM (Memref.isWhole_whole _) cM cc0_scratch2 cc0_scratch3 c) Kt := by
  unfold afterBarrier O₁
  simp only [bigSep_three]
  iintro ⟨#HR, #Hlev, HO, ⟨Hc0, Hc1, Hc2⟩, ⟨Hs0, Hs1, Hs2⟩, ⟨Hl0, Hl1, Hl2⟩, ⟨Ht0, Ht1, Ht2⟩, ⟨Hu0, Hu1, Hu2⟩, ⟨Hp0, Hp1, Hp2⟩, ⟨%f, Hloc⟩, Hx, Hout, Hk⟩
  -- the blocks in, the own answer out
  iapply (wp_loadBlocks c fullShare (xstg m ρ c)) $$ Hx
  iintro Hx
  iapply (wp_putCols c lM) $$ Hloc
  iintro Hloc
  rw [filled_local]
  ihave Hq := (Entails.of_eq (filled_quarters m ρ c)) $$ Hloc
  icases Hq with ⟨Hq0, Hq1, Hq2, Hq3⟩
  -- the three transfers
  iapply (wp_send_step m ρ K c 0 _ (sendTo_eq c 0)) $$ [HO Hq0 Hp0 Hu0 Ht0]
  · isplitr; · iexact HR
    isplitl [HO]; · iexact HO
    isplitl [Hq0]; · iexact Hq0
    isplitl [Hp0]; · iexact Hp0
    isplitl [Hu0]; · iexact Hu0
    iexact Ht0
  iintro ⟨Hd0, HO⟩
  iapply (wp_send_step m ρ K c 1 _ (sendTo_eq c 1)) $$ [HO Hq1 Hp1 Hu1 Ht1]
  · isplitr; · iexact HR
    isplitl [HO]; · iexact HO
    isplitl [Hq1]; · iexact Hq1
    isplitl [Hp1]; · iexact Hp1
    isplitl [Hu1]; · iexact Hu1
    iexact Ht1
  iintro ⟨Hd1, HO⟩
  iapply (wp_send_step m ρ K c 2 _ (sendTo_eq c 2)) $$ [HO Hq2 Hp2 Hu2 Ht2]
  · isplitr; · iexact HR
    isplitl [HO]; · iexact HO
    isplitl [Hq2]; · iexact Hq2
    isplitl [Hp2]; · iexact Hp2
    isplitl [Hu2]; · iexact Hu2
    iexact Ht2
  iintro ⟨Hd2, HO⟩
  -- what the peers sent
  iapply (wp_land_step m ρ K c 0) $$ [HO Hc0 Hl0]
  · isplitr; · iexact HR
    isplitr; · iexact Hlev
    isplitl [Hc0]; · iexact Hc0
    isplitl [HO] <;> iassumption
  iintro ⟨HO, Hl0, Hp0⟩
  iapply (wp_land_step m ρ K c 1) $$ [HO Hc1 Hl1]
  · isplitr; · iexact HR
    isplitr; · iexact Hlev
    isplitl [Hc1]; · iexact Hc1
    isplitl [HO] <;> iassumption
  iintro ⟨HO, Hl1, Hp1⟩
  iapply (wp_land_step m ρ K c 2) $$ [HO Hc2 Hl2]
  · isplitr; · iexact HR
    isplitr; · iexact Hlev
    isplitl [Hc2]; · iexact Hc2
    isplitl [HO] <;> iassumption
  iintro ⟨HO, Hl2, Hp2⟩
  -- the four answers read, the merged one stored
  iapply (wp_local_step m ρ c (quarter 3)) $$ Hq3
  iintro Hq3
  iapply (wp_slot_step m ρ c 0) $$ Hp0
  iintro Hp0
  iapply (wp_slot_step m ρ c 1) $$ Hp1
  iintro Hp1
  iapply (wp_slot_step m ρ c 2) $$ Hp2
  iintro Hp2
  iapply (wp_putCols c oM) $$ Hout
  iintro Hout
  rw [filled_out]
  -- the lent quarters back
  iapply (wp_sent_step m ρ K c 0) $$ [HO Hd0 Hs0]
  · isplitr; · iexact HR
    isplitr; · iexact Hlev
    isplitl [Hd0]; · iexact Hd0
    isplitl [HO] <;> iassumption
  iintro ⟨HO, Hs0, Hq0⟩
  iapply (wp_sent_step m ρ K c 1) $$ [HO Hd1 Hs1]
  · isplitr; · iexact HR
    isplitr; · iexact Hlev
    isplitl [Hd1]; · iexact Hd1
    isplitl [HO] <;> iassumption
  iintro ⟨HO, Hs1, Hq1⟩
  iapply (wp_sent_step m ρ K c 2) $$ [HO Hd2 Hs2]
  · isplitr; · iexact HR
    isplitr; · iexact Hlev
    isplitl [Hd2]; · iexact Hd2
    isplitl [HO] <;> iassumption
  iintro ⟨HO, Hs2, Hq2⟩
  unfold sentPay
  -- the cells close
  imod (close_cell m ρ K c (.inr (.inl 0))) $$ [Hs0] with Hz0
  · isplitr; · iexact HR
    iexact Hs0
  imod (close_cell m ρ K c (.inr (.inl 1))) $$ [Hs1] with Hz1
  · isplitr; · iexact HR
    iexact Hs1
  imod (close_cell m ρ K c (.inr (.inl 2))) $$ [Hs2] with Hz2
  · isplitr; · iexact HR
    iexact Hs2
  imod (close_cell m ρ K c (.inr (.inr 0))) $$ [Hl0] with Hy0
  · isplitr; · iexact HR
    iexact Hl0
  imod (close_cell m ρ K c (.inr (.inr 1))) $$ [Hl1] with Hy1
  · isplitr; · iexact HR
    iexact Hl1
  imod (close_cell m ρ K c (.inr (.inr 2))) $$ [Hl2] with Hy2
  · isplitr; · iexact HR
    iexact Hl2
  rw [wp_ret]; imodintro
  iapply Hk
  isplitl [HO]; · iexact HO
  isplitl [Hq0 Hq1 Hq2 Hq3 Hp0 Hp1 Hp2]
  · unfold scratch
    isplitl [Hq0 Hq1 Hq2 Hq3]
    · iexists (localAt m ρ c)
      iapply (Entails.of_eq (local_quarters m ρ c).symm)
      isplitl [Hq0]; · iexact Hq0
      isplitl [Hq1]; · iexact Hq1
      isplitl [Hq2]; · iexact Hq2
      iexact Hq3
    · iapply (slots_comm (F := F) c)
      isplitl [Hp0]; · iexact Hp0
      isplitl [Hp1]; · iexact Hp1
      iexact Hp2
  isplitl [Hz0 Hz1 Hz2]
  · isplitl [Hz0]; · iexact Hz0
    isplitl [Hz1]; · iexact Hz1
    iexact Hz2
  isplitl [Hy0 Hy1 Hy2]
  · isplitl [Hy0]; · iexact Hy0
    isplitl [Hy1]; · iexact Hy1
    iexact Hy2
  isplitl [Hx]; · iexact Hx
  iexact Hout

theorem barPay_slot (c : Dev nD) (s : Fin 3) : barPay c s ⊢ (∃ f, slotPts (F := F) (peer c s) s f : sProp 𝕄) := by
  unfold barPay
  iintro ⟨H, -⟩
  iexact H

/-- The body, from what the launch deals a device to what it leaves. -/
theorem wp_body (c : Dev nD) (Kt : PUnit → sProp 𝕄) :
    iprop((ghost m ρ K c ∗ credits (F := F) c ∗ levAts L lv ∗ scratch (F := F) c)
        ∗ (dats m ρ 0 c).owesAt () t₀.castSucc
        ∗ (∃ d, staged c cc0_stg0_0 ((dats m ρ 0 c).before (0 : Fin 2) t₀ d))
        ∗ (∃ d, staged c cc0_stg1_0 ((dats m ρ 0 c).before (1 : Fin 2) t₀ d))
        ∗ (bodyPost m ρ c -∗ Kt ⟨⟩))
      ⊢ wp frame (wpE (defs₀ (F := F)) 𝒱₀ (c : Thread nD τ) none) Set.univ
          (body (F := F) xM oM lM (Memref.isWhole_whole _) cM cc0_scratch2 cc0_scratch3) Kt := by
  unfold body
  simp only [semSignalWord, semWaitWord, Prog.lift, Prog.bind_op, Prog.bind_ret, Prog.pure_eq_ret, wp_deviceId]
  unfold ghost credits places payToks scratch
  rw [bigSep_cells]
  simp only [bigSep_three (F := F) fun s => dutyTok ER (barCell (peer c s)) 0 s.rev]
  iintro ⟨⟨⟨#HR, ⟨HaB, HaS, HaL⟩, ⟨HtB0, HtB1, HtB2⟩, HtL, HtS⟩, ⟨HcB, HcL⟩, #Hlev, Hloc, ⟨%fc, Hcomm⟩⟩, Ho, ⟨%d0, %g0, %hg0, Hx⟩, ⟨%d1, %g1, %hg1, Hout⟩, Hk⟩
  have hx : g0 = xstg m ρ c := by rw [hg0]; unfold Dat.before; rw [if_pos (show (cfg0.win (0 : Fin 2)).fetch t₀ = true from rfl)]; rfl
  subst hx
  unfold Dat.owesAt Pipeline.owesWithin
  icases Ho with ⟨%W, %hW, HO⟩
  rw [show (dats m ρ 0 c).owed t₀.castSucc = O₀ c from rfl]
  ihave HO := (show (owes (c : Thread nD τ) (O₀ c) W : sProp 𝕄) ⊢ holds c (O₀ c) from by
    unfold holds; iintro H; iexists W; iexact H) $$ HO
  unfold O₀
  ihave Hsl := (Entails.of_eq (comm_slots (F := F) c fc)) $$ Hcomm
  icases Hsl with ⟨Hsl0, Hsl1, Hsl2⟩
  -- the three signals, each handing over a slot
  iapply (wp_signal_step m ρ K c 0 _ (signalTo_eq c 0) _ (by decide)) $$ [HO HtB0 Hsl2]
  · isplitr; · iexact HR
    isplitl [HO]; · iexact HO
    isplitl [HtB0]; · iexact HtB0
    iexists fc; iexact Hsl2
  iintro HO
  iapply (wp_signal_step m ρ K c 1 _ (signalTo_eq c 1) _ (by decide)) $$ [HO HtB1 Hsl1]
  · isplitr; · iexact HR
    isplitl [HO]; · iexact HO
    isplitl [HtB1]; · iexact HtB1
    iexists fc; iexact Hsl1
  iintro HO
  iapply (wp_signal_step m ρ K c 2 _ (signalTo_eq c 2) _ (by decide)) $$ [HO HtB2 Hsl0]
  · isplitr; · iexact HR
    isplitl [HO]; · iexact HO
    isplitl [HtB2]; · iexact HtB2
    iexists fc; iexact Hsl0
  iintro HO
  -- the handshake: every peer's slot in return
  iapply (wp_wait_step m ρ K c (.inl ()) _ 3 (wpE_semWait_eq 𝒱₀ (c : Thread nD τ) none Set.univ) (expect_bar m ρ c).symm (O₁ c)
    (by rw [show kcell (c, .inl ()) = barCell c from rfl, lv_bar]; exact above_O₁ c)) $$ [HcB HO HaB]
  · isplitr; · iexact HR
    isplitr; · iexact Hlev
    isplitl [HcB]; · iexact HcB
    isplitl [HO]; · iexact HO
    iexact HaB
  iintro ⟨HO, HaB, Hpay⟩
  ihave Hp := (Entails.of_eq (rest_bar m ρ c)) $$ Hpay
  ihave Hp := (show (bigSep Finset.univ fun s => barPay (F := F) c s) ⊢ bigSep Finset.univ fun s => iprop(∃ f, slotPts (F := F) (peer c s) s f)
    from bigSep_mono fun s _ => barPay_slot c s) $$ Hp
  imod (close_cell m ρ K c (.inl ())) $$ [HaB] with HzB
  · isplitr; · iexact HR
    iexact HaB
  iapply (wp_afterBarrier m ρ K c Kt g1)
  isplitr; · iexact HR
  isplitr; · iexact Hlev
  isplitl [HO]; · iexact HO
  isplitl [HcL]; · iexact HcL
  isplitl [HaS]; · iexact HaS
  isplitl [HaL]; · iexact HaL
  isplitl [HtL]; · iexact HtL
  isplitl [HtS]; · iexact HtS
  isplitl [Hp]; · iexact Hp
  isplitl [Hloc]; · iexact Hloc
  isplitl [Hx]; · iexact Hx
  isplitl [Hout]; · iexact Hout
  iintro ⟨HO, Hscr, HzS, HzL, Hx, Hout⟩
  iapply Hk
  unfold bodyPost Φ₁ Dat.owesAt Pipeline.owesWithin
  rw [show (dats m ρ 0 c).owed t₀.succ = 0 from rfl, bigSep_cells]
  isplitl [Hscr HzB HzS HzL]
  · isplitl [Hscr]; · iexact Hscr
    isplitl [HzB]; · iexact HzB
    isplitl [HzS]; · iexact HzS
    iexact HzL
  isplitl [HO]
  · unfold holds
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

def bodyPre (c : Dev nD) : sProp 𝕄 :=
  iprop(Φ₀ m ρ c ∗ (dats m ρ 0 c).owesAt () t₀.castSucc
    ∗ (∃ d, staged c cc0_stg0_0 ((dats m ρ 0 c).before (0 : Fin 2) t₀ d))
    ∗ (∃ d, staged c cc0_stg1_0 ((dats m ρ 0 c).before (1 : Fin 2) t₀ d)))

/-- What the launch asks of the body on device `c`. -/
theorem body_obligation (c : Dev nD) : BodyObligation (dats (F := F) m ρ 0 c) (defs₀ (F := F)) 𝒱₀ () Set.univ := fun t => by
  rw [all_t₀ t]
  rw [bigSep_windows, bigSep_windows]
  simp only [owns_staged]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  rw [body_eq]
  unfold bodyPre Φ₀ start
  iintro ⟨⟨⟨⟨%K, Hg⟩, Hcr, Hlev⟩, Hscr⟩, Ho, Hx, Hout⟩
  iapply (wp_body m ρ K c fun _ => bodyPost m ρ c)
  isplitl [Hg Hcr Hlev Hscr]
  · isplitl [Hg]; · iexact Hg
    isplitl [Hcr]; · iexact Hcr
    isplitl [Hlev]; · iexact Hlev
    iexact Hscr
  isplitl [Ho]; · iexact Ho
  isplitl [Hx]; · iexact Hx
  isplitl [Hout]; · iexact Hout
  iintro H; iexact H

end Body

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Cells → GSem nD τ sig) := fun ⟨c, k⟩ ⟨c', k'⟩ h => by
  have hc : c = c' := congrArg (fun g : GSem nD τ sig => g.1.1) h
  have hk : k = k' := csem_injective (congrArg Prod.snd h)
  rw [hc, hk]
def cells : Finset (GSem nD τ sig) := Finset.univ.map ⟨kcell, kcell_injective⟩

/-- The duties of a device's own cells: (cell, duty) — three at the handshake, one at each transfer's cell. -/
abbrev dutyAt : Fin 3 ⊕ (Fin 3 ⊕ Fin 3) → Cells × Fin 3
  | .inl s => (.inl (), s)
  | .inr k => (.inr k, 0)
theorem dutyAt_injective : Function.Injective dutyAt := by decide
abbrev tokOf (cj : Dev nD × (Fin 3 ⊕ (Fin 3 ⊕ Fin 3))) : GSem nD τ sig × ℕ × Fin 3 :=
  (kcell (cj.1, (dutyAt cj.2).1), 0, (dutyAt cj.2).2)
theorem tokOf_injective : Function.Injective tokOf := fun ⟨c, j⟩ ⟨c', j'⟩ h => by
  have h₁ := kcell_injective (congrArg Prod.fst h)
  have h₂ : (dutyAt j).2 = (dutyAt j').2 := congrArg (fun x : GSem nD τ sig × ℕ × Fin 3 => x.2.2) h
  have hc : c = c' := congrArg Prod.fst h₁
  have hj : j = j' := dutyAt_injective (Prod.ext (congrArg Prod.snd h₁) h₂)
  rw [hc, hj]
def duties : Finset (GSem nD τ sig × ℕ × Fin 3) := Finset.univ.map ⟨tokOf, tokOf_injective⟩

def u₀ : UU := (initOf (Pipeline.cells cfgs cellOf_inj) (Pipeline.launchToks cfgs cellOf_inj), initOf cells duties)

/-- The tokens of the duties of device `c`'s own cells. -/
def toks (c : Dev nD) : sProp 𝕄 :=
  iprop((bigSep Finset.univ fun s : Fin 3 => dutyTok ER (barCell c) 0 s)
    ∗ (bigSep Finset.univ fun s : Fin 3 => dutyTok ER (sentCell c s) 0 0)
    ∗ bigSep Finset.univ fun s : Fin 3 => dutyTok ER (landCell c s) 0 0)

/-- What the launch deals a device, and what the devices together make of it. -/
def G (c : Dev nD) : sProp 𝕄 :=
  iprop((bigSep Finset.univ fun k : Cells => roundState ER (plan m ρ) (kcell (c, k)) 0)
    ∗ (bigSep Finset.univ fun k : Cells => iprop(atPos ER (kcell (c, k)) 0 ∅ 0 ∗ reached ER (kcell (c, k)) 0)) ∗ toks c)
def G' (c : Dev nD) : sProp 𝕄 := iprop(∃ K, ghost m ρ K c)

theorem fund_cells : BI.own (ER (initOf cells duties)) ⊢ (|==> bigSep Finset.univ (G m ρ) : sProp 𝕄) := by
  have hX (Φ : GSem nD τ sig → sProp 𝕄) : bigSep cells Φ = bigSep Finset.univ fun c : Dev nD => bigSep Finset.univ fun k : Cells => Φ (kcell (c, k)) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]
    exact bigSep_congr fun c _ => by unfold toks; rw [bigSep_univ_sum, bigSep_univ_sum]; rfl
  iintro HX
  imod (Rounds.fund ER (plan m ρ) cells duties) $$ HX with ⟨Hst, Hr, Hat, Htok⟩
  imodintro
  ihave Hst' := (Entails.of_eq (hX fun g => roundState ER (plan m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg bar] (by decide) (by decide)]; rfl

/-- The kernel's own semaphores and the handshake's are the seven cells. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Cells => semVal (kcell (c, k)) 0 : sProp 𝕄) := by
  unfold Pipeline.ownSems0
  rw [unscopedSems0_eq, bigSep_cells, bigSep_univ_sum]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (plan m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Cells => semVal (kcell (c, k)) 0) ∗ bigSep Finset.univ fun k : Cells => roundState ER (plan m ρ) (kcell (c, k)) 0)
      ⊢ (|={Set.univ}=> bigSep Finset.univ fun k => iprop(∃ κ : ℕ, cellInv ER (plan m ρ) κ (kcell (c, k))) : sProp 𝕄) from by
        rw [← bigSep_sep']
        exact (bigSep_mono fun k _ => (Rounds.body_intro ER (plan m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The handshake duties change hands: the duty `s` of device `c` is paid by its peer `s`. -/
def acrossBar : Dev nD × Fin 3 ≃ Dev nD × Fin 3 where
  toFun p := (peer p.1 p.2, p.2.rev)
  invFun p := (peer p.1 p.2, p.2.rev)
  left_inv p := Prod.ext (peer_rev p.1 p.2) (Fin.rev_rev p.2)
  right_inv p := Prod.ext (peer_rev p.1 p.2) (Fin.rev_rev p.2)
/-- So do the landing cells' duties. -/
def acrossLand : Dev nD × Fin 3 ≃ Dev nD × Fin 3 where
  toFun p := (peer p.1 p.2, p.2)
  invFun p := (peer p.1 p.2.rev, p.2)
  left_inv p := Prod.ext (peer_rev p.1 p.2) rfl
  right_inv p := Prod.ext (rev_peer p.1 p.2) rfl

theorem bigSep_across (e : Dev nD × Fin 3 ≃ Dev nD × Fin 3) (Φ : Dev nD × Fin 3 → sProp 𝕄) :
    (bigSep Finset.univ fun c : Dev nD => bigSep Finset.univ fun s : Fin 3 => Φ (c, s))
      = bigSep Finset.univ fun c : Dev nD => bigSep Finset.univ fun s : Fin 3 => Φ (e (c, s)) := by
  rw [← bigSep_univ_prod Φ, bigSep_univ_equiv e Φ, bigSep_univ_prod]

theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_across acrossBar (fun p => (dutyTok ER (barCell p.1) 0 p.2 : sProp 𝕄)),
    bigSep_across acrossLand (fun p => (dutyTok ER (landCell p.1 p.2) 0 0 : sProp 𝕄))]
  iintro ⟨H1, H2, H3⟩
  isplitl [H1]; · iexact H1
  isplitl [H3]; · iexact H3
  iexact H2

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (plan m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cells => iprop(∃ κ : ℕ, cellInv ER (plan m ρ) κ (kcell ck))),
    bigSep_congr (s := Finset.univ) (fun (c : Dev nD) _ => bigSep_sep' Finset.univ (fun k : Cells => (atPos ER (kcell (c, k)) 0 ∅ 0 : sProp 𝕄)) (fun k => reached ER (kcell (c, k)) 0)),
    bigSep_sep', ← bigSep_univ_prod (fun ck : Dev nD × Cells => (reached ER (kcell ck) 0 : sProp 𝕄))]
  iintro ⟨HI, ⟨Hat, #HR⟩, Htok⟩
  ihave HK := (BI.bigSep_exists_pi Finset.univ (fun (ck : Dev nD × Cells) (κ : ℕ) => (cellInv ER (plan m ρ) κ (kcell ck) : sProp 𝕄))) $$ HI
  icases HK with ⟨%K, #HI⟩
  ihave Htk := (toks_across (F := F)) $$ Htok
  iapply (with_persistent (R := records m ρ K) (Φ := fun c => iprop(places (F := F) c ∗ payToks (F := F) c)) fun c _ =>
    show iprop(records m ρ K ∗ places (F := F) c ∗ payToks (F := F) c) ⊢ G' m ρ c from by
      unfold G' ghost; iintro H; iexists K; iexact H)
  isplitr
  · unfold records; isplitl; · iexact HI
    iexact HR
  · rw [bigSep_sep']
    unfold places
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- One unit of tally per device, each at the cell of the device some rearrangement takes it to: every cell of that kind gets it once. -/
theorem sum_tally (e : Dev nD ≃ Dev nD) (cell : Dev nD → GSem nD τ sig) (hc : Function.Injective cell) (n : ℕ) (c : Dev nD) :
    ∑ d : Dev nD, (tallyAt (cell (e d)) () n : CellTallies nD τ sig Unit) (cell c) () = n := by
  rw [Equiv.sum_comp e fun d => (tallyAt (cell d) () n : CellTallies nD τ sig Unit) (cell c) (), Finset.sum_eq_single c]
  · rw [tallyAt_apply, if_pos ⟨rfl, rfl⟩]
  · intro d _ hd; rw [tallyAt_apply, if_neg fun h => hd (hc h.1).symm]
  · intro h; exact absurd (Finset.mem_univ c) h

/-- Tallies at cells that are not the one asked for add nothing. -/
theorem sum_tally_ne (cell : Dev nD → GSem nD τ sig) (g : GSem nD τ sig) (h : ∀ d, g ≠ cell d) (n : ℕ) :
    ∑ d : Dev nD, (tallyAt (cell d) () n : CellTallies nD τ sig Unit) g () = 0 :=
  Finset.sum_eq_zero fun d _ => by rw [tallyAt_apply, if_neg fun e => h d e.1]

theorem bar_injective : Function.Injective (barCell : Dev nD → GSem nD τ sig) := fun a b h => congrArg (fun g : GSem nD τ sig => g.1.1) h
theorem land_injective (s : Fin 3) : Function.Injective (fun c : Dev nD => landCell c s) := fun a b h => congrArg (fun g : GSem nD τ sig => g.1.1) h
theorem bar_ne_land (a b : Dev nD) (s : Fin 3) : barCell a ≠ landCell b s := fun h => by cases congrArg Prod.snd h
theorem land_ne_land (a b : Dev nD) {s t : Fin 3} (hst : s ≠ t) : landCell a s ≠ landCell b t := fun h => by
  have e := congrArg (fun g : GSem nD τ sig => role g.2) h
  rw [show role (landCell a s).2 = .land s from role_land s, show role (landCell b t).2 = .land t from role_land t] at e
  exact hst (Role.land.inj e)

theorem O₀_apply (d : Dev nD) (g : GSem nD τ sig) : O₀ d g ()
    = (owesLand d 2 g () + owesLand d 1 g () + owesLand d 0 g ()) + (owesBar d 2 g () + owesBar d 1 g () + owesBar d 0 g ()) := by
  unfold O₀ O₁
  simp only [Pi.add_apply, Finsupp.add_apply, Pi.zero_apply, Finsupp.zero_apply]
  omega

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  have hb (s : Fin 3) := sum_tally (along s) barCell bar_injective 1 c
  have hl (s : Fin 3) := sum_tally_ne (fun d => landCell (peer d s) s) (barCell c) (fun d => bar_ne_land c _ s) N
  rw [Pipeline.launchCredit_owing, Finsupp.single_eq_same, Finset.sum_congr rfl fun d _ => O₀_apply d (barCell c)]
  simp only [Finset.sum_add_distrib]
  rw [hl 0, hl 1, hl 2]
  exact congrArg₂ (· + ·) rfl (congrArg₂ (· + ·) (congrArg₂ (· + ·) (hb 2) (hb 1)) (hb 0))

theorem launch_land (c : Dev nD) (s : Fin 3) :
    tallyOn (landCell c s) (launchCredit (Pipeline.owing O₀) 0 (landCell c s)) = (tallyAt (landCell c s) () N : CellTallies nD τ sig Unit) := by
  unfold tallyAt; refine congrArg _ (Finsupp.ext fun u => ?_); cases u
  have hb (t : Fin 3) : ∑ d : Dev nD, owesBar d t (landCell c s) () = 0 :=
    sum_tally_ne (fun d => barCell (peer d t)) (landCell c s) (fun d h => bar_ne_land _ c s h.symm) 1
  have hl (t : Fin 3) : ∑ d : Dev nD, owesLand d t (landCell c s) () = if t = s then N else 0 := by
    by_cases h : t = s
    · rw [if_pos h, h]; exact sum_tally (along s) (fun c => landCell c s) (land_injective s) N c
    · rw [if_neg h]; exact sum_tally_ne (fun d => landCell (peer d t) t) (landCell c s) (fun d => land_ne_land c _ (fun e => h e.symm)) N
  rw [Pipeline.launchCredit_owing, Finsupp.single_eq_same, Finset.sum_congr rfl fun d _ => O₀_apply d (landCell c s)]
  simp only [Finset.sum_add_distrib]
  rw [hb 0, hb 1, hb 2, hl 0, hl 1, hl 2]
  fin_cases s <;> simp

def landLoc : Fin 3 ↪ SemLoc sig := ⟨fun s => .dma (landSem s), by decide⟩

theorem creds (c : Dev nD) : (Pipeline.launchCred O₀ c : sProp 𝕄) ⊢ credits c := by
  unfold Pipeline.launchCred credits
  rw [bigSep_univ_at _ (SemLoc.reg bar), launch_bar]
  have hs : (Finset.univ.map landLoc) ⊆ Finset.univ.erase (SemLoc.reg bar : SemLoc sig) := fun l hl => by
    obtain ⟨s, -, rfl⟩ := Finset.mem_map.mp hl
    exact Finset.mem_erase.mpr ⟨(fun h => by cases h), Finset.mem_univ _⟩
  refine sep_mono_right ((show _ ⊢ _ from bigSep_subset hs).trans (Entails.of_eq ?_))
  rw [bigSep_map]
  exact bigSep_congr fun s _ => by rw [← launch_land]; rfl

/-! ### The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  rw [← sems_eq]
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_of c _ 0 _ (by show level _ ≤ 0; fin_cases w <;> fin_cases s <;> dsimp only <;> decide) (by
      rcases t with ⟨_ | _, ht⟩
      · exact above_O₀ c
      · exact above_zero 0)

/-! ## The run -/

/-- What the arrays hold after the run. -/
def finalA (c : Dev nD) (w : Fin cfg0.W) : Buf (Elt F) ((cfg0.win w).arr.view.loc (c : Thread nD τ)) := (dats m ρ 0 c).arrAt w cfg0.N

set_option maxRecDepth 8000 in
/-- Every weakly fair execution of the launch, from any memory with every counter at zero, ends with every array as computed
    and every counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.KernelIdeal.Top

end
-- ==== Proof.BitsRun.lean ====
/-
# The run of the program as compiled

The idealized kernel is the compiled kernel's own text, no operation replaced, and the run of IdealRun is
stated at every reading of the floats. So the compiled kernel's run is that run, read at bit patterns.
-/
module

public import proofs.«01_k».proof.Proof.IdealRun
public import proofs.«01_k».proof.Kernel
public import proofs.«01_k».proof.Proof.Gen.Kernel
public import Idealize.ShloMosaic.Lib.StableHlo.RunHlo

@[expose] public section

noncomputable section

namespace Cert.Kernel.Top

open Idealize.ShloMosaic Idealize.SL.Sem

variable {F : FTy → Type} [FloatOps F]

/-- The frame of the idealized kernel: its input is unchanged and every counter is at zero. -/
theorem frame_ideal (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) :=
  θ_run_mono (Cert.KernelIdeal.Top.run_main m g)
    fun r h => ⟨fun c => (h.1 c (0 : Fin 2)).trans (Cert.KernelIdeal.Top.finalA_arg m g c), h.2⟩

set_option maxRecDepth 8000 in
/-- The two programs are one text, so their frames are one statement. -/
theorem frame_same (m : (ℓ : Loc Cert.Kernel.nD Cert.Kernel.τ Cert.Kernel.sig) → Buf (Elt F) ℓ) (g : Dev Cert.Kernel.nD → PrngReg) :
    (θ_run (Cert.Kernel.defs (F := F)) (onTc (τ := Cert.Kernel.τ) (Cert.Kernel.main (F := F))) ⟨m, fun _ => 0, g⟩ (fun r =>
      (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0))
      ∧ r.2.sem = fun _ => 0))
    = (θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0)) := by
  sl_kernel_rfl

/-- The frame of the kernel as compiled. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r =>
      (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0))
      ∧ r.2.sem = fun _ => 0) :=
  Eq.mpr (frame_same m g) (frame_ideal m g)

end Cert.Kernel.Top

end
-- ==== Proof.Ranked.lean ====
/-
# Values in descending order, one maximum at a time

A finite set of extended reals is read from the top: its largest element below a threshold, then the
largest below that, and so on. Three facts carry the proof: an element with `j` elements above it is the
`j`-th one read; reading a set that has a descending list as its top, and nothing else but negative
infinity, reads that list; and reading sets lane by lane, or device by device, before reading them
together loses nothing that is among what was read.
-/
module

public import Idealize.ShloMosaic.PureOps.Ideal

@[expose] public section

noncomputable section

namespace Cert.Ranked

/-- The largest element of `S` below `t`; negative infinity if there is none. -/
def next (S : Finset EReal) (t : EReal) : EReal := (S.filter (· < t)).sup id

/-- The elements of `S` in descending order, those below positive infinity. -/
def nth (S : Finset EReal) (k : ℕ) : EReal := Nat.rec (next S ⊤) (fun _ t => next S t) k

theorem nth_succ (S : Finset EReal) (k : ℕ) : nth S (k + 1) = next S (nth S k) := rfl

/-- An element below the threshold is at most the largest one. -/
theorem le_next {S : Finset EReal} {t v : EReal} (hv : v ∈ S) (ht : v < t) : v ≤ next S t :=
  Finset.le_sup (f := id) (Finset.mem_filter.2 ⟨hv, ht⟩)

/-- What bounds every element below the threshold bounds the largest. -/
theorem next_le {S : Finset EReal} {t u : EReal} (h : ∀ v ∈ S, v < t → v ≤ u) : next S t ≤ u :=
  Finset.sup_le fun v hv => h v (Finset.mem_filter.1 hv).1 (Finset.mem_filter.1 hv).2

/-- The largest element below a threshold is at most the threshold. -/
theorem next_le_self (S : Finset EReal) (t : EReal) : next S t ≤ t := next_le fun _ _ h => h.le

/-- The element with nothing between it and the threshold is the one read. -/
theorem next_eq {S : Finset EReal} {t v : EReal} (hv : v ∈ S) (ht : v < t) (h : ∀ u ∈ S, u < t → u ≤ v) : next S t = v :=
  le_antisymm (next_le h) (le_next hv ht)

/-- What is read is an element, or negative infinity. -/
theorem next_mem (S : Finset EReal) (t : EReal) : next S t ∈ S ∨ next S t = ⊥ := by
  rcases (S.filter (· < t)).eq_empty_or_nonempty with h | h
  · exact .inr (by unfold next; rw [h, Finset.sup_empty])
  · obtain ⟨v, hv, e⟩ := Finset.exists_mem_eq_sup _ h id
    exact .inl (by rw [show next S t = v from e]; exact (Finset.mem_filter.1 hv).1)

/-- So is everything read in turn. -/
theorem nth_mem (S : Finset EReal) (k : ℕ) : nth S k ∈ S ∨ nth S k = ⊥ := by
  cases k <;> exact next_mem _ _

/-- What is read descends. -/
theorem nth_antitone (S : Finset EReal) : Antitone (nth S) :=
  antitone_nat_of_succ_le fun k => next_le_self S (nth S k)

/-- An element with `j` elements above it is the `j`-th one read. -/
theorem nth_card {S : Finset EReal} (htop : ∀ v ∈ S, v < ⊤) :
    ∀ (j : ℕ) (v : EReal), v ∈ S → (S.filter (v < ·)).card = j → nth S j = v
  | 0, v, hv, hj => next_eq hv (htop v hv) fun u hu _ => by
      by_contra h
      have : u ∈ S.filter (v < ·) := Finset.mem_filter.2 ⟨hu, not_le.1 h⟩
      rw [Finset.card_eq_zero.1 hj] at this
      exact absurd this (Finset.notMem_empty u)
  | j + 1, v, hv, hj => by
      have hne : (S.filter (v < ·)).Nonempty := Finset.card_pos.1 (by omega)
      obtain ⟨w, hw, hmin⟩ := Finset.exists_min_image _ id hne
      have hw' := Finset.mem_filter.1 hw
      have hsub : S.filter (w < ·) = (S.filter (v < ·)).erase w := by
        ext u
        simp only [Finset.mem_erase, Finset.mem_filter]
        refine ⟨fun h => ⟨h.2.ne', h.1, hw'.2.trans h.2⟩, fun h => ⟨h.2.1, ?_⟩⟩
        exact lt_of_le_of_ne (hmin u (Finset.mem_filter.2 h.2)) (Ne.symm h.1)
      have hcard : (S.filter (w < ·)).card = j := by rw [hsub, Finset.card_erase_of_mem hw, hj]; rfl
      rw [nth_succ, nth_card htop j w hw'.1 hcard]
      refine next_eq hv hw'.2 fun u hu huw => ?_
      by_contra h
      exact absurd (hmin u (Finset.mem_filter.2 ⟨hu, not_le.1 h⟩)) (not_le.2 huw)

/-- An element with fewer than `n` elements above it is among the first `n` read. -/
theorem mem_first {S : Finset EReal} (htop : ∀ v ∈ S, v < ⊤) {v : EReal} (hv : v ∈ S) {n : ℕ}
    (hn : (S.filter (v < ·)).card < n) : v ∈ (Finset.range n).image (nth S) :=
  Finset.mem_image.2 ⟨_, Finset.mem_range.2 hn, nth_card htop _ v hv rfl⟩

/-- `a 0 > a 1 > …` is the top of `S`: every element from the last of them up is one of them. -/
structure Top {n : ℕ} (a : Fin n → EReal) (S : Finset EReal) : Prop where
  anti : StrictAnti a
  lt_top : ∀ i, a i < ⊤
  mem : ∀ i, a i ∈ S
  all : ∀ v ∈ S, ∀ i, a i ≤ v → ∃ j, v = a j

/-- A set that holds the top of `S`, and otherwise only elements of `S` and negative infinity, is read as that top. -/
theorem Top.nth_eq {n : ℕ} {a : Fin n → EReal} {S C : Finset EReal} (h : Top a S) (hmem : ∀ i, a i ∈ C)
    (hC : ∀ v ∈ C, v ∈ S ∨ v = ⊥) : ∀ (k : ℕ) (hk : k < n), nth C k = a ⟨k, hk⟩ := by
  have bound : ∀ (k : ℕ) (hk : k < n) (t : EReal), (∀ j : Fin n, a j < t → k ≤ j.val) → ∀ u ∈ C, u < t → u ≤ a ⟨k, hk⟩ := by
    intro k hk t ht u hu hut
    by_contra hlt
    rw [not_le] at hlt
    rcases hC u hu with hS | rfl
    · obtain ⟨j, rfl⟩ := h.all u hS ⟨k, hk⟩ hlt.le
      exact absurd (h.anti.antitone (show (⟨k, hk⟩ : Fin n) ≤ j from ht j hut)) (not_le.2 hlt)
    · exact not_lt_bot hlt
  intro k
  induction k with
  | zero => exact fun hk => next_eq (hmem _) (h.lt_top _) (bound 0 hk ⊤ fun _ _ => Nat.zero_le _)
  | succ k ih =>
    intro hk
    rw [nth_succ, ih (by omega)]
    refine next_eq (hmem _) (h.anti (Nat.lt_succ_self k)) (bound (k + 1) hk _ fun j hj => ?_)
    have := h.anti.lt_iff_gt.1 hj
    exact this

/-- At most `i` elements of such a set are above the `i`-th of the top. -/
theorem Top.card_above {n : ℕ} {a : Fin n → EReal} {S C : Finset EReal} (h : Top a S) (hC : ∀ v ∈ C, v ∈ S ∨ v = ⊥)
    (i : Fin n) : (C.filter (a i < ·)).card < n := by
  have hsub : C.filter (a i < ·) ⊆ (Finset.univ.filter fun j : Fin n => j < i).image a := by
    intro v hv
    obtain ⟨hv, hlt⟩ := Finset.mem_filter.1 hv
    rcases hC v hv with hS | rfl
    · obtain ⟨j, rfl⟩ := h.all v hS i hlt.le
      exact Finset.mem_image.2 ⟨j, Finset.mem_filter.2 ⟨Finset.mem_univ _, h.anti.lt_iff_gt.1 hlt⟩, rfl⟩
    · exact absurd hlt not_lt_bot
  refine lt_of_le_of_lt ((Finset.card_le_card hsub).trans Finset.card_image_le) ?_
  have hi : i ∉ Finset.univ.filter fun j : Fin n => j < i := by simp
  calc (Finset.univ.filter fun j : Fin n => j < i).card < (Finset.univ : Finset (Fin n)).card :=
        Finset.card_lt_card (Finset.ssubset_iff_of_subset (Finset.subset_univ _) |>.2 ⟨i, Finset.mem_univ _, hi⟩)
    _ = n := by simp

/-- Reading two levels of a family of sets — the first `p` of each lane, then the first `n` of each device's candidates,
    then all devices together — reads the top of the whole, where every lane holds at most `p` elements of the top. -/
theorem Top.two_levels {n p : ℕ} {Y Λ : Type} [Fintype Y] [Fintype Λ] {a : Fin n → EReal} {S : Finset EReal}
    (L : Y → Λ → Finset EReal) (hS : ∀ v, v ∈ S ↔ ∃ y l, v ∈ L y l) (h : Top a S) (htop : ∀ v ∈ S, v < ⊤)
    (hfew : ∀ y l i, a i ∈ L y l → ((L y l).filter (a i < ·)).card < p) (k : ℕ) (hk : k < n) :
    nth (Finset.univ.biUnion fun y => (Finset.range n).image
      (nth (Finset.univ.biUnion fun l => (Finset.range p).image (nth (L y l))))) k = a ⟨k, hk⟩ := by
  set C : Y → Finset EReal := fun y => Finset.univ.biUnion fun l => (Finset.range p).image (nth (L y l)) with hCdef
  have hC : ∀ y, ∀ v ∈ C y, v ∈ S ∨ v = ⊥ := by
    intro y v hv
    obtain ⟨l, -, hv⟩ := Finset.mem_biUnion.1 hv
    obtain ⟨j, -, rfl⟩ := Finset.mem_image.1 hv
    exact (nth_mem (L y l) j).imp_left fun hm => (hS _).2 ⟨y, l, hm⟩
  have htopC : ∀ y, ∀ v ∈ C y, v < ⊤ := fun y v hv => (hC y v hv).elim (htop v) fun e => e ▸ bot_lt_top
  refine h.nth_eq (S := S) (fun i => ?_) (fun v hv => ?_) k hk
  · obtain ⟨y, l, hm⟩ := (hS _).1 (h.mem i)
    refine Finset.mem_biUnion.2 ⟨y, Finset.mem_univ _, mem_first (htopC y) ?_ (h.card_above (hC y) i)⟩
    exact Finset.mem_biUnion.2 ⟨l, Finset.mem_univ _,
      mem_first (fun v hv => htop v ((hS v).2 ⟨y, l, hv⟩)) hm (hfew y l i hm)⟩
  · obtain ⟨y, -, hv⟩ := Finset.mem_biUnion.1 hv
    obtain ⟨j, -, rfl⟩ := Finset.mem_image.1 hv
    exact (nth_mem (C y) j).elim (hC y _) .inr

/-- The maximum, over a family, of what is below a threshold. -/
theorem sup_ite {ι : Type} (s : Finset ι) (f : ι → EReal) (t : EReal) :
    (s.sup fun i => if f i < t then f i else ⊥) = next (s.image f) t := by
  refine le_antisymm (Finset.sup_le fun i hi => ?_) (next_le fun v hv hlt => ?_)
  · split
    · exact le_next (Finset.mem_image_of_mem f hi) ‹_›
    · exact bot_le
  · obtain ⟨i, hi, rfl⟩ := Finset.mem_image.1 hv
    exact le_trans (by rw [if_pos hlt]) (Finset.le_sup (f := fun i => if f i < t then f i else ⊥) hi)

/-- The maximum, over a family of sets, of each set's largest element below a threshold. -/
theorem sup_next {ι : Type} (s : Finset ι) (A : ι → Finset EReal) (t : EReal) :
    (s.sup fun i => next (A i) t) = next (s.biUnion A) t := by
  refine le_antisymm (Finset.sup_le fun i hi => next_le fun v hv hlt => ?_) (next_le fun v hv hlt => ?_)
  · exact le_next (Finset.mem_biUnion.2 ⟨i, hi, hv⟩) hlt
  · obtain ⟨i, hi, hv⟩ := Finset.mem_biUnion.1 hv
    exact (le_next hv hlt).trans (Finset.le_sup (f := fun i => next (A i) t) hi)

/-- Of four values in descending order, the first below a threshold is the largest below it. -/
theorem first_below {f : ℕ → EReal} (hf : Antitone f) (t : EReal) :
    (if f 0 < t then f 0 else if f 1 < t then f 1 else if f 2 < t then f 2 else if f 3 < t then f 3 else ⊥)
      = next ((Finset.range 4).image f) t := by
  have mem : ∀ i, i < 4 → f i ∈ (Finset.range 4).image f := fun i hi => Finset.mem_image_of_mem f (Finset.mem_range.2 hi)
  have key : ∀ i, i < 4 → f i < t → (∀ j, j < i → ¬ f j < t) → f i = next ((Finset.range 4).image f) t := fun i hi ht hj =>
    (next_eq (mem i hi) ht fun u hu hut => by
      obtain ⟨j, -, rfl⟩ := Finset.mem_image.1 hu
      exact hf (not_lt.1 fun h => hj j h hut)).symm
  split_ifs with h0 h1 h2 h3
  · exact key 0 (by omega) h0 fun j hj => absurd hj (by omega)
  · exact key 1 (by omega) h1 fun j hj => by obtain rfl : j = 0 := by omega
                                             exact h0
  · exact key 2 (by omega) h2 fun j hj => by
      rcases (by omega : j = 0 ∨ j = 1) with rfl | rfl <;> assumption
  · exact key 3 (by omega) h3 fun j hj => by
      rcases (by omega : j = 0 ∨ j = 1 ∨ j = 2) with rfl | rfl | rfl <;> assumption
  · refine le_antisymm bot_le (next_le fun u hu hut => ?_)
    obtain ⟨j, hj, rfl⟩ := Finset.mem_image.1 hu
    rw [Finset.mem_range] at hj
    exfalso
    rcases (by omega : j = 0 ∨ j = 1 ∨ j = 2 ∨ j = 3) with rfl | rfl | rfl | rfl <;> contradiction

end Cert.Ranked

end
-- ==== Proof.RowOrder.lean ====
/-
# A row in descending order

`order x r` lists the columns of row `r` by descending entry, columns with equal entries in their own order:
the listing that the reference and the mask both read their entries from. `ranked x r` is the row's first
sixteen entries in it.
-/
module

public import proofs.«01_k».proof.Proof.Ranked
public import Idealize.ShloMosaic.Lib.Pointwise
public import Idealize.ShloMosaic.Lib.SortFacts

@[expose] public section

noncomputable section

namespace Cert.RowOrder

open Idealize.ShloMosaic Cert.Ranked

/-- The shape of the whole array. -/
abbrev Whole : Shape := ⟨2, ![512, 16384]⟩

/-- Column `k` goes before column `k'` in row `r`: its entry is greater. -/
def before (x : Whole.Idx → EReal) (r : Fin 512) (k k' : Fin 16384) : Bool := decide (x (ix2 r k') < x (ix2 r k))

/-- The columns of row `r` by descending entry. -/
def order (x : Whole.Idx → EReal) (r : Fin 512) : Fin 16384 → Fin 16384 := sortedFrom (before x r)

/-- The first sixteen entries of row `r` in descending order. -/
def ranked (x : Whole.Idx → EReal) (r : Fin 512) (k : Fin 16) : EReal := x (ix2 r (order x r (⟨k.val, by omega⟩ : Fin 16384)))

variable (x : Whole.Idx → EReal) (r : Fin 512)

/-- A later place holds no greater entry. -/
theorem order_antitone (i j : Fin 16384) (h : i ≤ j) : x (ix2 r (order x r j)) ≤ x (ix2 r (order x r i)) := by
  rcases h.lt_or_eq with h | rfl
  · have := sortedFrom_noInversion (before x r) (before x r) (fun a b hab => ?_) (fun _ _ h => h) (fun a b c hab hbc => ?_) i j h
    · exact not_lt.1 (of_decide_eq_false this)
    · exact decide_eq_false (not_lt.2 (of_decide_eq_true hab).le)
    · exact decide_eq_false (not_lt.2 ((not_lt.1 (of_decide_eq_false hab)).trans (not_lt.1 (of_decide_eq_false hbc))))
  · exact le_rfl

/-- Every column has its place. -/
theorem exists_place (j : Fin 16384) : ∃ p, order x r p = j := sortedFrom_surjective _ j

/-- If the first entry is below positive infinity, every entry is. -/
theorem lt_top (h0 : ranked x r 0 < ⊤) (j : Fin 16384) : x (ix2 r j) < ⊤ := by
  obtain ⟨p, rfl⟩ := exists_place x r j
  exact (order_antitone x r ⟨0, by omega⟩ p (Nat.zero_le _)).trans_lt h0

/-- Sixteen different first entries, the first below positive infinity, head the row. -/
theorem top_ranked (hd : ∀ i : Fin 15, ranked x r i.succ < ranked x r i.castSucc) (h0 : ranked x r 0 < ⊤) :
    Top (ranked x r) (Finset.univ.image fun j : Fin 16384 => x (ix2 r j)) where
  anti := Fin.strictAnti_iff_succ_lt.2 hd
  lt_top i := lt_top x r h0 _
  mem i := Finset.mem_image.2 ⟨_, Finset.mem_univ _, rfl⟩
  all := fun v hv i hi => by
    obtain ⟨j, -, rfl⟩ := Finset.mem_image.1 hv
    obtain ⟨p, rfl⟩ := exists_place x r j
    by_cases hp : p.val < 16
    · exact ⟨⟨p.val, hp⟩, rfl⟩
    · exact ⟨i, le_antisymm (order_antitone x r ⟨i.val, by omega⟩ p (show i.val ≤ p.val by omega)) hi⟩

/-! ## Sorting the negated row ascending -/

theorem along_ix2 (j k : Fin 16384) : (ix2 r j : Whole.Idx).along 1 k = ix2 r k :=
  funext fun a => by match a with | ⟨0, _⟩ => rfl | ⟨1, _⟩ => rfl

/-- One row's places, from a comparison that is «less than» of the negated entries. -/
theorem sortedFrom_eq (R : Fin 16384 → Fin 16384 → BitVec 1) (h : ∀ k k', R k k' = 1#1 ↔ -x (ix2 r k) < -x (ix2 r k')) :
    (sortedFrom fun k k' => R k k' == 1#1) = order x r :=
  sortedFrom_congr _ _ fun k k' _ => by
    rw [before, Bool.eq_iff_iff, beq_iff_eq, h, EReal.neg_lt_neg_iff, decide_eq_true_iff]

/-- The array negated and its rows sorted ascending. -/
theorem sort_apply (cmp : EReal → EReal → BitVec 1) (hc : ∀ a b, cmp a b = 1#1 ↔ a < b) (j : Fin 16384) :
    Host.sort Whole 1 cmp (fun i => -x i) (ix2 r j) = -x (ix2 r (order x r j)) := by
  unfold Host.sort
  rw [dif_pos (show 1 < Whole.rank by decide)]
  have e : (sortedFrom fun k k' : Fin 16384 => cmp (-x ((ix2 r j : Whole.Idx).along 1 k)) (-x ((ix2 r j : Whole.Idx).along 1 k')) == 1#1)
      = order x r := sortedFrom_eq x r _ fun k k' => by rw [along_ix2, along_ix2, hc]
  exact (congrArg (fun f : Fin 16384 → Fin 16384 => -x ((ix2 r j : Whole.Idx).along 1 (f j))) e).trans (by rw [along_ix2])

/-- What the columns' numbers become when the negated rows are sorted with them. -/
theorem sort2_apply (cmp : EReal × BitVec 32 → EReal × BitVec 32 → BitVec 1) (hc : ∀ a b, cmp a b = 1#1 ↔ a.1 < b.1)
    (y : Whole.Idx → BitVec 32) (j : Fin 16384) :
    (Host.sort2 Whole 1 cmp (fun i => -x i) y).2 (ix2 r j) = y (ix2 r (order x r j)) := by
  unfold Host.sort2
  rw [dif_pos (show 1 < Whole.rank by decide)]
  have e : (sortedFrom fun k k' : Fin 16384 => cmp (-x ((ix2 r j : Whole.Idx).along 1 k), y ((ix2 r j : Whole.Idx).along 1 k))
      (-x ((ix2 r j : Whole.Idx).along 1 k'), y ((ix2 r j : Whole.Idx).along 1 k')) == 1#1)
      = order x r := sortedFrom_eq x r _ fun k k' => by rw [along_ix2, along_ix2, hc]
  exact (congrArg (fun f : Fin 16384 → Fin 16384 => y ((ix2 r j : Whole.Idx).along 1 (f j))) e).trans (by rw [along_ix2])

end Cert.RowOrder

end
-- ==== Proof.IdealValue.lean ====
/-
# What the kernel computes, over the extended reals

Each device's own answer is the top sixteen of its lanes' four best, and the merged answer the top of the
four devices' own answers, every one of them read from sets of extended reals.
-/
module

public import proofs.«01_k».proof.Proof.IdealRun
public import proofs.«01_k».proof.Proof.RowOrder
public import Idealize.ShloMosaic.Lib.Pointwise
public import Idealize.ShloMosaic.Lib.Layout
public import Idealize.ShloMosaic.Lib.Pipeline.ValueKit

@[expose] public section

noncomputable section

namespace Cert.KernelIdeal.Top

open Cert.KernelIdeal Cert.KernelIdeal.Gen
open Idealize.ShloMosaic Cert.Ranked

/-- The word the kernel pads with denotes negative infinity. -/
theorem low_word : Ideal.ofBits .f32 0xFF800000#32 = ⊥ := by simp [Ideal.ofBits, Ideal.ieee]
/-- The word of the first threshold denotes positive infinity. -/
theorem high_word : Ideal.ofBits .f32 0x7F800000#32 = ⊤ := by simp [Ideal.ofBits, Ideal.ieee]

theorem bottom_apply (s : Shape) (i : s.Idx) : bottom (F := Ideal) s i = ⊥ := low_word

/-- A choice by a comparison, read as an `if`. -/
theorem choose_lt (x y u v : EReal) : Scalar.select (Ideal.cmp .olt x y) u v = if x < y then u else v := by
  by_cases h : x < y <;> simp [Scalar.select, Ideal.cmp, h]

theorem under_apply {s : Shape} (p v : FVec Ideal s .f32) (i : s.Idx) : under p v i = if v i < p i then v i else ⊥ := by
  rw [← bottom_apply s i]; exact choose_lt _ _ _ _

/-- The running maximum is the maximum of all. -/
theorem running_apply (v : ℕ → FVec Ideal S512x128 .f32) (i : S512x128.Idx) :
    ∀ n, running v n i = (Finset.range (n + 1)).sup fun b => v b i
  | 0 => by simp; rfl
  | n + 1 => by
    rw [Finset.range_add_one, Finset.sup_insert, ← running_apply v i n]
    exact max_comm _ _

/-- The values a lane holds, over a device's thirty-two blocks. -/
def lane (v : ℕ → FVec Ideal S512x128 .f32) (i : S512x128.Idx) : Finset EReal := (Finset.range 32).image fun b => v b i

/-- The lane's best values are its values in descending order, where none of them is positive infinity. -/
theorem best_apply (v : ℕ → FVec Ideal S512x128 .f32) (i : S512x128.Idx) (htop : ∀ x ∈ lane v i, x < ⊤) :
    ∀ j, best v j i = nth (lane v i) j
  | 0 => by
    show running v 31 i = next _ ⊤
    rw [running_apply]
    refine le_antisymm (Finset.sup_le fun b hb => ?_) (next_le fun x hx _ => ?_)
    · have hm : v b i ∈ lane v i := Finset.mem_image_of_mem (fun b => v b i) hb
      exact le_next hm (htop _ hm)
    · obtain ⟨b, hb, rfl⟩ := Finset.mem_image.1 hx
      exact Finset.le_sup (f := fun b => v b i) hb
  | j + 1 => by
    show running (fun b => under (best v j) (v b)) 31 i = next _ (nth _ j)
    rw [running_apply, ← best_apply v i htop j]
    simp only [under_apply]
    exact sup_ite _ _ _

/-- The fold of the maximum from negative infinity is the maximum. -/
theorem fold_max {ι : Type} (s : Finset ι) (f : ι → EReal) : s.fold max (Ideal.ofBits .f32 0xFF800000#32) f = s.sup f := by
  rw [low_word]; rfl

/-- The candidates of row `r`: the four best of every lane. -/
def candidates (v : ℕ → FVec Ideal S512x128 .f32) (r : Fin 512) : Finset EReal :=
  Finset.univ.biUnion fun l : Fin 128 => (Finset.range 4).image (nth (lane v (ix2 r l)))

/-- A row's maximum below a threshold is the largest candidate below it. -/
theorem rowMax_apply (v : ℕ → FVec Ideal S512x128 .f32) (t : FVec Ideal S512x1 .f32) (r : Fin 512)
    (htop : ∀ l : Fin 128, ∀ x ∈ lane v (ix2 r l), x < ⊤) :
    rowMax v t (ix2 r 0) = next (candidates v r) (t (ix2 r 0)) := by
  unfold rowMax candidates
  rw [← sup_next]
  pointwise
  rw [fold_max]
  refine Finset.sup_congr rfl fun l _ => ?_
  simp only [bottom_apply, best_apply v _ (htop l)]
  exact first_below (nth_antitone _) _

theorem noLimit_apply (i : S512x1.Idx) : noLimit (F := Ideal) i = ⊤ := high_word

/-- A device's own answer is its candidates in descending order. -/
theorem own_apply (v : ℕ → FVec Ideal S512x128 .f32) (r : Fin 512) (htop : ∀ l : Fin 128, ∀ x ∈ lane v (ix2 r l), x < ⊤) :
    ∀ k, own v k (ix2 r 0) = nth (candidates v r) k
  | 0 => by
    show rowMax v noLimit (ix2 r 0) = next _ ⊤
    rw [rowMax_apply v _ r htop, noLimit_apply]
  | k + 1 => by
    show rowMax v (own v k) (ix2 r 0) = next _ (nth _ k)
    rw [rowMax_apply v _ r htop, own_apply v r htop k]

/-- The values a row of sixteen columns holds. -/
def rowSet (b : FVec Ideal S512x16 .f32) (r : Fin 512) : Finset EReal := Finset.univ.image fun k : Fin 16 => b (ix2 r k)

theorem blockMax_apply (b : FVec Ideal S512x16 .f32) (t : FVec Ideal S512x1 .f32) (r : Fin 512) :
    blockMax b t (ix2 r 0) = next (rowSet b r) (t (ix2 r 0)) := by
  unfold blockMax rowSet
  rw [← sup_ite]
  pointwise
  rw [fold_max]
  refine Finset.sup_congr rfl fun l _ => ?_
  rw [under_apply]
  pointwise

/-- The largest of four blocks below a threshold is the largest of all their values below it. -/
theorem fourMax_apply (b : Fin 4 → FVec Ideal S512x16 .f32) (t : FVec Ideal S512x1 .f32) (r : Fin 512) :
    fourMax b t (ix2 r 0) = next (Finset.univ.biUnion fun d => rowSet (b d) r) (t (ix2 r 0)) := by
  rw [← sup_next, show (Finset.univ : Finset (Fin 4)) = {0, 1, 2, 3} from rfl]
  show max (max (max (blockMax (b 0) t (ix2 r 0)) (blockMax (b 1) t (ix2 r 0))) (blockMax (b 2) t (ix2 r 0)))
    (blockMax (b 3) t (ix2 r 0)) = _
  simp only [blockMax_apply, Finset.sup_insert, Finset.sup_singleton]
  rw [max_assoc, max_assoc]

/-- The merged answer is the four blocks' values in descending order. -/
theorem merged_apply (b : Fin 4 → FVec Ideal S512x16 .f32) (r : Fin 512) :
    ∀ k, merged b k (ix2 r 0) = nth (Finset.univ.biUnion fun d => rowSet (b d) r) k
  | 0 => by
    show fourMax b noLimit (ix2 r 0) = next _ ⊤
    rw [fourMax_apply, noLimit_apply]
  | k + 1 => by
    show fourMax b (merged b k) (ix2 r 0) = next _ (nth _ k)
    rw [fourMax_apply, merged_apply b r k]

theorem rowOf_ix2 (r : Fin 512) (k : Fin 16) : rowOf (ix2 r k) = ix2 r 0 :=
  funext fun a => by match a with | ⟨0, _⟩ => rfl | ⟨1, _⟩ => rfl

/-- Block `b` of a device's columns holds columns `128 b …`. -/
theorem blockAt_apply (X : (cc0_stg0_0 : Ref sig .tc).ty.Contents (Elt Ideal)) (b : Fin 32) (r : Fin 512) (l : Fin 128) :
    blockAt X b (ix2 r l) = X (ix2 r (⟨128 * b.val + l.val, by omega⟩ : Fin 4096)) := by
  unfold blockAt
  pointwise
  show X _ = X _
  congr 1
  refine funext fun a => Fin.ext ?_
  match a with
  | ⟨0, _⟩ => show 0 + 1 * r.val = r.val; omega
  | ⟨1, _⟩ => show 128 * b.val + 1 * l.val = 128 * b.val + l.val; omega

variable (m : (ℓ : Loc nD τ sig) → Buf (Elt Ideal) ℓ) (ρ : Dev nD → PrngReg)

theorem localAt_apply (c : Dev nD) (r : Fin 512) (k : Fin 16) :
    localAt m ρ c (ix2 r k) = own (blocks (xstg m ρ c)) k.val (ix2 r 0) := by
  unfold localAt colsOf
  rw [rowOf_ix2]
  pointwise
  rfl

theorem xstg_apply (c : Dev nD) (i : S512x4096.Idx) : xstg m ρ c i = m ((c.tc : Thread nD τ).loc main_arg0) i := by
  unfold xstg
  show m _ _ = m _ _
  congr 1
  refine funext fun a => Fin.ext ?_
  exact Pipeline.Window.rect_emb_val_of_index_zero win0_0 _ a (by revert a; decide +kernel) i

/-- The result array ends holding what the body left in its output block. -/
theorem finalA_out (c : Dev nD) : finalA m ρ c (1 : Fin 2) = outAt m ρ c := by
  refine (dats m ρ 0 c).arrAt_eq_of_after_last 1 Gen.t0_0 (by decide +kernel) _ fun j => ?_
  rfl

/-! ## The kernel's answer in terms of the whole array -/

/-- Device `c`'s place along the axis that cuts the columns. -/
def place (c : Dev nD) : Fin 4 := ⟨c.val / 4 % 4, Nat.mod_lt _ (by decide)⟩

open RowOrder (Whole)

variable (A : FVec Ideal Whole .f32)

/-- What row `r` of the whole array has in lane `l` of the columns at place `y`. -/
def laneSet (r : Fin 512) (y : Fin 4) (l : Fin 128) : Finset EReal :=
  Finset.univ.image fun b : Fin 32 => A (ix2 r (⟨4096 * y.val + (128 * b.val + l.val), by omega⟩ : Fin 16384))

/-- The sixteen values that the device at place `y` sends for row `r`. -/
def placeSet (r : Fin 512) (y : Fin 4) : Finset EReal :=
  (Finset.range 16).image (nth (Finset.univ.biUnion fun l => (Finset.range 4).image (nth (laneSet A r y l))))

/-- A device's block of the whole array starts at column `4096` times its place. -/
theorem block_apply (c : Dev nD) (r : Fin 512) (j : Fin 4096) :
    (Layout.blockN S512x4096 Whole (Layout.meshBlock [2, 4, 4] ![[], [1]] c) A : S512x4096.Idx → EReal) (ix2 r j)
      = A (ix2 r (⟨4096 * (place c).val + j.val, by omega⟩ : Fin 16384)) := by
  rw [Layout.blockN_apply]
  show A _ = A _
  congr 1
  refine funext fun a => Fin.ext ?_
  match a with
  | ⟨0, _⟩ => show 0 * 512 + r.val = r.val; omega
  | ⟨1, _⟩ => show (c.val / 4 % 4 * 1 + 0) * 4096 + j.val = 4096 * (c.val / 4 % 4) + j.val; omega

variable (hA : ∀ c : Dev nD, m ((c.tc : Thread nD τ).loc main_arg0)
  = Layout.blockN S512x4096 Whole (Layout.meshBlock [2, 4, 4] ![[], [1]] c) A)

include hA in
theorem lane_eq (c : Dev nD) (r : Fin 512) (l : Fin 128) : lane (blocks (xstg m ρ c)) (ix2 r l) = laneSet A r (place c) l := by
  have e (b : Fin 32) : blocks (xstg m ρ c) b.val (ix2 r l)
      = A (ix2 r (⟨4096 * (place c).val + (128 * b.val + l.val), by omega⟩ : Fin 16384)) := by
    rw [blocks_apply, blockAt_apply, xstg_apply, hA, block_apply]
  ext v
  simp only [lane, laneSet, Finset.mem_image, Finset.mem_range, Finset.mem_univ, true_and]
  exact ⟨fun ⟨b, hb, h⟩ => ⟨⟨b, hb⟩, (e ⟨b, hb⟩).symm.trans h⟩, fun ⟨b, h⟩ => ⟨b.val, b.isLt, (e b).trans h⟩⟩

include hA in
/-- What a device sends for a row whose entries are all below positive infinity. -/
theorem rowSet_localAt (c : Dev nD) (r : Fin 512) (htop : ∀ j, A (ix2 r j) < ⊤) :
    rowSet (localAt m ρ c) r = placeSet A r (place c) := by
  have hc : candidates (blocks (xstg m ρ c)) r = Finset.univ.biUnion fun l => (Finset.range 4).image (nth (laneSet A r (place c) l)) := by
    simp only [candidates, lane_eq m ρ A hA]
  have e (k : Fin 16) : localAt m ρ c (ix2 r k) = nth (candidates (blocks (xstg m ρ c)) r) k.val := by
    rw [localAt_apply]
    refine own_apply _ r (fun l x hx => ?_) k.val
    rw [lane_eq m ρ A hA] at hx
    obtain ⟨b, -, rfl⟩ := Finset.mem_image.1 hx
    exact htop _
  ext v
  simp only [rowSet, placeSet, Finset.mem_image, Finset.mem_range, Finset.mem_univ, true_and, ← hc]
  exact ⟨fun ⟨k, h⟩ => ⟨k.val, k.isLt, (e k).symm.trans h⟩, fun ⟨k, hk, h⟩ => ⟨⟨k, hk⟩, (e ⟨k, hk⟩).trans h⟩⟩

/-- Whose values the four blocks that device `c` merges are. -/
def holder (c : Dev nD) : Fin 4 → Dev nD := ![c, peer c 2, peer c 1, peer c 0]

/-- They are one device at each of the four places. -/
theorem place_holder (c : Dev nD) (y : Fin 4) : ∃ d, place (holder c d) = y := by revert c y; decide +kernel

include hA in
/-- A device's answer for a row: the values sent from the four places, in descending order. -/
theorem outAt_apply (c : Dev nD) (r : Fin 512) (htop : ∀ j, A (ix2 r j) < ⊤) (k : Fin 16) :
    outAt m ρ c (ix2 r k) = nth (Finset.univ.biUnion (placeSet A r)) k.val := by
  have h4 : ![localAt m ρ c, landAt m ρ c 0, landAt m ρ c 1, landAt m ρ c 2] = fun d => localAt m ρ (holder c d) := by
    funext d
    match d with
    | ⟨0, _⟩ => rfl
    | ⟨1, _⟩ => rfl
    | ⟨2, _⟩ => rfl
    | ⟨3, _⟩ => rfl
  have hS : (Finset.univ.biUnion fun d => rowSet (localAt m ρ (holder c d)) r) = Finset.univ.biUnion (placeSet A r) := by
    ext v
    simp only [rowSet_localAt m ρ A hA _ r htop, Finset.mem_biUnion, Finset.mem_univ, true_and]
    exact ⟨fun ⟨d, h⟩ => ⟨_, h⟩, fun ⟨y, h⟩ => by obtain ⟨d, rfl⟩ := place_holder c y; exact ⟨d, h⟩⟩
  unfold outAt colsOf
  rw [rowOf_ix2, h4, merged_apply, hS]
  rfl

include hA in
/-- Where sixteen values descend strictly to head a row, lie below positive infinity, and are at most four to a lane, they are
    every device's answer for that row. -/
theorem outAt_eq (c : Dev nD) (r : Fin 512) (htop : ∀ j, A (ix2 r j) < ⊤) (a : Fin 16 → EReal)
    (ha : Top a (Finset.univ.image fun j : Fin 16384 => A (ix2 r j)))
    (hfew : ∀ y l i, a i ∈ laneSet A r y l → ((laneSet A r y l).filter (a i < ·)).card < 4) (k : Fin 16) :
    outAt m ρ c (ix2 r k) = a k := by
  rw [outAt_apply m ρ A hA c r htop k]
  refine Top.two_levels (laneSet A r) (fun v => ?_) ha (fun v hv => ?_) hfew k.val k.isLt
  · simp only [laneSet, Finset.mem_image, Finset.mem_univ, true_and]
    constructor
    · rintro ⟨j, rfl⟩
      refine ⟨⟨j.val / 4096, by omega⟩, ⟨j.val % 128, Nat.mod_lt _ (by decide)⟩, ⟨j.val % 4096 / 128, by omega⟩, ?_⟩
      congr 2
      exact Fin.ext (show 4096 * (j.val / 4096) + (128 * (j.val % 4096 / 128) + j.val % 128) = j.val by omega)
    · rintro ⟨y, l, b, h⟩
      exact ⟨_, h⟩
  · obtain ⟨j, -, rfl⟩ := Finset.mem_image.1 hv
    exact htop j

end Cert.KernelIdeal.Top

end
-- ==== Proof.Mask.lean ====
/-
# What the mask says of a row

Where the mask `clear_rows` is set, the row's first sixteen entries in descending order are different, below
positive infinity, and at most four to a lane of a device's block.
-/
module

public import proofs.«01_k».proof.Proof.IdealValue
public import proofs.«01_k».proof.Proof.Gen.On_clear_rows
public import Idealize.ShloMosaic.Lib.ReduceAll
public import Idealize.ShloMosaic.Lib.StableHlo.Predicate

@[expose] public section

noncomputable section

namespace Cert.On_clear_rows

open Idealize.ShloMosaic Cert.Ranked Cert.RowOrder

variable [Facts]
open Facts

/-- The mask's comparison of two entries is «less than». -/
theorem comparator_iff (a b : EReal) : comparator_f32_d1 (F := Ideal) a b = 1#1 ↔ a < b := by
  pointwise [comparator_f32_d1]
  have e (v : EReal) : (if v ≠ v then Ideal.ofBits FTy.f32 2143289344#32 else if v = 0 then 0 else v) = v := by
    rw [if_neg (not_not.2 rfl)]
    split
    · exact Eq.symm ‹v = 0›
    · rfl
  rw [e, e]
  show BitVec.ofBool (decide (a < b)) = 1#1 ↔ a < b
  rw [StableHlo.Predicate.ofBool_eq_one_iff, decide_eq_true_iff]

theorem sort_eq (x : FVec Ideal S512x16384 .f32) (r : Fin 512) (j : Fin 16384) :
    fn_sort (F := Ideal) (Host.negf x) (ix2 r j) = -x (ix2 r (order x r j)) :=
  sort_apply x r _ comparator_iff j

theorem andi_eq_one (a b : BitVec 1) : IntOp.andi a b = 1#1 ↔ a = 1#1 ∧ b = 1#1 := by
  revert a b; decide

/-- A conjunction of bits that is set has every one of them set. -/
theorem fold_andi {ι : Type} [DecidableEq ι] (s : Finset ι) (p : ι → BitVec 1) (h : Finset.fold IntOp.andi (1#1) p s = 1#1) :
    ∀ i ∈ s, p i = 1#1 := by
  induction s using Finset.induction_on with
  | empty => exact fun _ hi => absurd hi (Finset.notMem_empty _)
  | insert a s ha ih =>
    rw [Finset.fold_insert ha, andi_eq_one] at h
    exact fun i hi => (Finset.mem_insert.1 hi).elim (fun e => e ▸ h.1) (ih h.2 i)

/-- The sum of widened bits, thirty-two of them, is how many are set. -/
theorem toNat_count (p : Fin 32 → Prop) [DecidablePred p] :
    (Finset.fold IntOp.addi (0#32) (fun b => BitVec.setWidth 32 (BitVec.ofBool (decide (p b)))) Finset.univ).toNat
      = (Finset.univ.filter p).card := by
  have e (b : Fin 32) : (BitVec.setWidth 32 (BitVec.ofBool (decide (p b)))).toNat = if p b then 1 else 0 := by
    rw [StableHlo.Predicate.toNat_setWidth_bit]
    simp only [StableHlo.Predicate.ofBool_eq_one_iff, decide_eq_true_iff]
  have hs : ∑ b : Fin 32, (BitVec.setWidth 32 (BitVec.ofBool (decide (p b)))).toNat = (Finset.univ.filter p).card := by
    rw [Finset.card_filter]
    exact Finset.sum_congr rfl fun b _ => e b
  rw [StableHlo.Predicate.toNat_fold_addi _ _ (by rw [hs]; exact lt_of_le_of_lt (Finset.card_le_univ _) (by decide)), hs]

/-- The places of a lane that hold one of the first sixteen entries, or an entry equal to the last of them. -/
def chosen (x : FVec Ideal S512x16384 .f32) (r : Fin 512) (y : Fin 4) (l : Fin 128) : Finset (Fin 32) :=
  Finset.univ.filter fun b : Fin 32 => ranked x r 15 ≤ x (ix2 r (⟨4096 * y.val + (128 * b.val + l.val), by omega⟩ : Fin 16384))

/-- Where the mask is set, a row's first sixteen entries are different, below positive infinity, and chosen at most four to a lane. -/
theorem of_fn (x : FVec Ideal S512x16384 .f32) (r : Fin 512) (k : Fin 16) (h : fn (F := Ideal) x (ix2 r k) = 1#1) :
    (∀ i : Fin 15, ranked x r i.succ < ranked x r i.castSucc) ∧ ranked x r 0 < ⊤ ∧ ∀ y l, (chosen x r y l).card ≤ 4 := by
  have hneg (j : Fin 16384) : -fn_sort (F := Ideal) (Host.negf x) (ix2 r j) = x (ix2 r (order x r j)) := by
    rw [sort_eq, neg_neg]
  unfold fn fn_part1 at h
  pointwise at h
  rw [andi_eq_one, andi_eq_one] at h
  simp only [hneg] at h
  obtain ⟨⟨h1, h2⟩, h3⟩ := h
  refine ⟨fun i => ?_, ?_, fun y l => ?_⟩
  · have := fold_andi _ _ h1 i (Finset.mem_univ _)
    rw [StableHlo.Predicate.ofBool_eq_one_iff, decide_eq_true_iff] at this
    have e : (⟨1 + i.val, by omega⟩ : Fin 16384) = ⟨i.val + 1, by omega⟩ := Fin.ext (Nat.add_comm _ _)
    rw [e] at this
    exact this
  · rw [StableHlo.Predicate.ofBool_eq_one_iff, decide_eq_true_iff] at h2
    exact h2.trans_eq Cert.KernelIdeal.Top.high_word
  · have := fold_andi _ _ h3 (y, l) (Finset.mem_univ _)
    rw [StableHlo.Predicate.sle_iff_toNat (by rw [toNat_count]; exact lt_of_le_of_lt (Finset.card_le_univ _) (by decide)) (by decide),
      toNat_count] at this
    refine le_trans (Finset.card_le_card fun b hb => ?_) this
    have e : (⟨4096 * y.val + (128 * b.val + l.val), by omega⟩ : Fin 16384) = ⟨y.val * 4096 + b.val * 128 + l.val, by omega⟩ :=
      Fin.ext (show 4096 * y.val + (128 * b.val + l.val) = y.val * 4096 + b.val * 128 + l.val by omega)
    have hb' := (Finset.mem_filter.1 hb).2
    rw [e] at hb'
    exact Finset.mem_filter.2 ⟨Finset.mem_univ _, hb'⟩

/-- So every device's answer for that row is those sixteen entries. -/
theorem outAt_of_fn (m : (ℓ : Loc Cert.KernelIdeal.nD Cert.KernelIdeal.τ Cert.KernelIdeal.sig) → Buf (Elt Ideal) ℓ)
    (ρ : Dev Cert.KernelIdeal.nD → PrngReg) (x : FVec Ideal S512x16384 .f32)
    (hx : ∀ c : Dev Cert.KernelIdeal.nD, m ((c.tc : Thread Cert.KernelIdeal.nD Cert.KernelIdeal.τ).loc Cert.KernelIdeal.main_arg0)
      = Layout.blockN ⟨2, ![512, 4096]⟩ ⟨2, ![512, 16384]⟩ (Layout.meshBlock [2, 4, 4] ![[], [1]] c) x)
    (c : Dev Cert.KernelIdeal.nD) (r : Fin 512) (k : Fin 16) (h : fn (F := Ideal) x (ix2 r k) = 1#1) :
    Cert.KernelIdeal.Top.outAt m ρ c (ix2 r k) = ranked x r k := by
  obtain ⟨hd, h0, hc⟩ := of_fn x r k h
  refine Cert.KernelIdeal.Top.outAt_eq m ρ x hx c r (lt_top x r h0) (ranked x r) (top_ranked x r hd h0) (fun y l i hi => ?_) k
  have hlast : ranked x r 15 ≤ ranked x r i := order_antitone x r _ _ (show i.val ≤ 15 by omega)
  have hsub : insert (ranked x r i) ((Cert.KernelIdeal.Top.laneSet x r y l).filter (ranked x r i < ·))
      ⊆ (chosen x r y l).image fun b => x (ix2 r (⟨4096 * y.val + (128 * b.val + l.val), by omega⟩ : Fin 16384)) := by
    refine Finset.insert_subset ?_ fun v hv => ?_
    · obtain ⟨b, -, hb⟩ := Finset.mem_image.1 hi
      exact Finset.mem_image.2 ⟨b, Finset.mem_filter.2 ⟨Finset.mem_univ _, hlast.trans_eq hb.symm⟩, hb⟩
    · obtain ⟨hv, hlt⟩ := Finset.mem_filter.1 hv
      obtain ⟨b, -, hb⟩ := Finset.mem_image.1 hv
      exact Finset.mem_image.2 ⟨b, Finset.mem_filter.2 ⟨Finset.mem_univ _, (hlast.trans hlt.le).trans_eq hb.symm⟩, hb⟩
  have hcard := (Finset.card_le_card hsub).trans (Finset.card_image_le.trans (hc y l))
  rw [Finset.card_insert_of_notMem (fun hm => lt_irrefl _ (Finset.mem_filter.1 hm).2)] at hcard
  exact Nat.lt_of_succ_le hcard

end Cert.On_clear_rows

end
-- ==== Proof.Reference.lean ====
/-
# What the reference computes

The reference sorts the columns' numbers by the negated entries, keeps the first sixteen of a row and reads the
row there: it returns the row's first sixteen entries in descending order.
-/
module

public import proofs.«01_k».proof.Proof.RowOrder
public import proofs.«01_k».proof.Proof.Gen.ReferenceIdeal.Run
public import Idealize.ShloMosaic.Lib.ReduceAll
public import Idealize.ShloMosaic.Lib.StableHlo.Predicate

@[expose] public section

noncomputable section

namespace Cert.ReferenceIdeal

open Idealize.ShloMosaic Cert.RowOrder

variable [Facts]
open Facts Facts₀

/-- The reference's comparison of two (entry, column) pairs is «less than» of the entries. -/
theorem comparator_iff (a b : EReal × BitVec 32) : comparator_f32_i32_d1 (F := Ideal) a b = 1#1 ↔ a.1 < b.1 := by
  pointwise [comparator_f32_i32_d1]
  have e (v : EReal) : (if v ≠ v then Ideal.ofBits FTy.f32 2143289344#32 else if v = 0 then 0 else v) = v := by
    rw [if_neg (not_not.2 rfl)]
    split
    · exact Eq.symm ‹v = 0›
    · rfl
  rw [e, e]
  show BitVec.ofBool (decide (a.1 < b.1)) = 1#1 ↔ a.1 < b.1
  rw [StableHlo.Predicate.ofBool_eq_one_iff, decide_eq_true_iff]

/-- The columns' numbers, sorted by the negated entries. -/
def columns (x : FVec Ideal S512x16384 .f32) : IVec S512x16 32 :=
  extractStridedSlice S512x16 ![0, 0] ((Host.sort2 S512x16384 1 (comparator_f32_i32_d1 (F := Ideal)) (Host.negf x)
    (iotaInDim S512x16384 32 1)).2) slices_S512x16384_S512x16_0_0

theorem columns_apply (x : FVec Ideal S512x16384 .f32) (r : Fin 512) (k : Fin 16) :
    columns x (ix2 r k) = BitVec.ofNat 32 (order x r (⟨k.val, by omega⟩ : Fin 16384)).val := by
  have e := sort2_apply x r (comparator_f32_i32_d1 (F := Ideal)) comparator_iff (iotaInDim S512x16384 32 1) ⟨k.val, by omega⟩
  unfold columns
  pointwise
  refine Eq.trans ?_ (e.trans ?_)
  · rfl
  · pointwise

/-- The numbers as the read takes them: a negative one counted from the end. -/
def starts (x : FVec Ideal S512x16384 .f32) : IVec S512x16x1 32 :=
  shapeCast S512x16x1 (select (cmpi .slt (columns x) (broadcastInDim S512x16 ![] bcast_S_S512x16 (constantI S_ 32 0#32)))
    (addi (columns x) (broadcastInDim S512x16 ![] bcast_S_S512x16 (constantI S_ 32 16384#32))) (columns x))
    shapeCasts_S512x16_S512x16x1

theorem starts_apply (x : FVec Ideal S512x16384 .f32) (r : Fin 512) (k : Fin 16) (z : Fin 1) :
    starts x (ix3 r k z) = BitVec.ofNat 32 (order x r (⟨k.val, by omega⟩ : Fin 16384)).val := by
  unfold starts
  pointwise
  rw [columns_apply]
  have h : IntOp.cmpi .slt (BitVec.ofNat 32 (order x r (⟨k.val, by omega⟩ : Fin 16384)).val) 0#32 = 0#1 := by
    refine (BitVec.eq_zero_or_eq_one _).resolve_right fun e => ?_
    have := (StableHlo.Predicate.slt_ofNat_iff _ 0 (by omega) (by decide)).1 e
    omega
  rw [h]
  rfl

/-- The reference's result, as its operations make it from its argument. -/
def result (x : FVec Ideal S512x16384 .f32) : FVec Ideal S512x16 .f32 :=
  select (Host.reduce IntOp.andi
      (andi (cmpi .sge (starts x) (broadcastInDim S512x16x1 ![] bcast_S_S512x16x1 (constantI S_ 32 0#32)))
        (cmpi .sle (starts x) (broadcastInDim S512x16x1 ![0, 1, 2] bcast_S1x1x1_S512x16x1_0_1_2
          (broadcastInDim S1x1x1 ![2] bcast_S1_S1x1x1_2 (constantI S1 32 16383#32)))))
      (constantI S_ 1 1#1) reducesTo_S512x16x1_S512x16_d2 h_S_)
    (Host.gather gather_S512x16384_S512x16x1_S512x16_n_1_0_0_1_2_11 x (starts x))
    (broadcastInDim S512x16 ![] bcast_S_S512x16 (constant (F := Ideal) S_ .f32 0x7FC00000#32))

/-- How the read is directed: along each row, one column for each number. -/
abbrev columnRead := gather_S512x16384_S512x16x1_S512x16_n_1_0_0_1_2_11

/-- The read along a row: at `(r, k)` it takes the entry of row `r` in the column named at `(r, k)`. -/
theorem gather_apply (x : FVec Ideal S512x16384 .f32) (idx : IVec S512x16x1 32) (r : Fin 512) (k : Fin 16) (b : Fin 16384)
    (hb : idx (ix3 r k (0 : Fin 1)) = BitVec.ofNat 32 b.val) :
    Host.gather columnRead x idx (ix2 r k) = x (ix2 r b) := by
  unfold Host.gather
  have e0 : ∀ X : Fin 2, X = 0 → (ix2 r k X).val = r.val := fun X h => by subst h; rfl
  have e1 : ∀ X : Fin 2, X = 1 → (ix2 r k X).val = k.val := fun X h => by subst h; rfl
  have hsi (c : Fin columnRead.startIndexMap.length) : columnRead.siIdx (ix2 r k) c = ix3 r k (0 : Fin 1) := by
    funext b'
    apply Fin.ext
    match b' with
    | ⟨0, _⟩ => exact e0 _ rfl
    | ⟨1, _⟩ => exact e1 _ rfl
    | ⟨2, _⟩ => exact Nat.lt_one_iff.1 c.isLt
  have hk : ∀ a : Fin 2, a ∉ columnRead.sKept := fun a => by
    rw [columnRead.mem_sKept]
    match a with
    | ⟨0, _⟩ => exact fun h => h.2 (List.mem_singleton.2 rfl)
    | ⟨1, _⟩ => exact fun h => h.1 (List.mem_singleton.2 rfl)
  refine congrArg x (funext fun a => Fin.ext ?_)
  show columnRead.start (ix2 r k) idx a + columnRead.batchCoord (ix2 r k) a + columnRead.offCoord (ix2 r k) a = _
  rw [columnRead.offCoord_eq_zero _ _ (hk a), Nat.add_zero]
  match a with
  | ⟨0, _⟩ =>
    show columnRead.start (ix2 r k) idx (0 : Fin 2) + columnRead.batchCoord (ix2 r k) (0 : Fin 2) = r.val
    rw [columnRead.start_batching _ _ _ (List.mem_singleton.2 rfl), Nat.zero_add]
    unfold GatherDims.batchCoord
    rw [dif_pos (show (0 : Fin 2) ∈ columnRead.operandBatchingDims from List.mem_singleton.2 rfl)]
    exact e0 _ rfl
  | ⟨1, _⟩ =>
    show columnRead.start (ix2 r k) idx (1 : Fin 2) + columnRead.batchCoord (ix2 r k) (1 : Fin 2) = b.val
    rw [columnRead.batchCoord_eq_zero _ _ (fun h => absurd (List.mem_singleton.1 h) (by decide)), Nat.add_zero]
    unfold GatherDims.start
    rw [dif_pos (show (1 : Fin 2) ∈ columnRead.startIndexMap from List.mem_singleton.2 rfl)]
    show min (idx (columnRead.siIdx _ _)).toInt.toNat (16384 - 1) = b.val
    rw [hsi, hb, StableHlo.Predicate.toInt_ofNat_small _ (by omega), Int.toNat_natCast]
    omega

theorem result_apply (x : FVec Ideal S512x16384 .f32) (r : Fin 512) (k : Fin 16) : result x (ix2 r k) = ranked x r k := by
  have hs (z : Fin 1) := starts_apply x r k z
  unfold result
  pointwise
  rw [gather_apply x _ r k _ (hs 0)]
  simp only [hs]
  have h : IntOp.andi (IntOp.cmpi .sge (BitVec.ofNat 32 (order x r (⟨k.val, by omega⟩ : Fin 16384)).val) 0#32)
      (IntOp.cmpi .sle (BitVec.ofNat 32 (order x r (⟨k.val, by omega⟩ : Fin 16384)).val) 16383#32) = 1#1 := by
    rw [show IntOp.cmpi .sge (BitVec.ofNat 32 (order x r (⟨k.val, by omega⟩ : Fin 16384)).val) 0#32 = 1#1 from
        (StableHlo.Predicate.sle_ofNat_iff 0 _ (by decide) (by omega)).2 (Nat.zero_le _),
      show IntOp.cmpi .sle (BitVec.ofNat 32 (order x r (⟨k.val, by omega⟩ : Fin 16384)).val) 16383#32 = 1#1 from
        (StableHlo.Predicate.sle_ofNat_iff _ 16383 (by omega) (by decide)).2 (by omega)]
    rfl
  simp only [h, Finset.univ_unique, Finset.fold_singleton]
  rfl

end Cert.ReferenceIdeal

end
-- ==== Proof.lean ====
/-
# The claim

The frames of the two kernels and of the reference, and that kernel and reference leave the same values wherever
the mask `clear_rows` is set.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_clear_rows
public import proofs.«01_k».proof.Proof.BitsRun
public import proofs.«01_k».proof.Proof.Mask
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The reference leaves its argument unchanged and every counter at zero. -/
theorem reference_frame : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run m g)

/-- Where the mask is set, the kernel's result on every device and the reference's result are the row's first sixteen entries in
    descending order. -/
theorem agree : Cert.algebraic_KernelIdeal_ReferenceIdeal_on_clear_rows (hKernelIdeal := Cert.KernelIdeal.Gen.facts)
    (hReferenceIdeal := Cert.ReferenceIdeal.Gen.facts) (hOn_clear_rows := Cert.On_clear_rows.Gen.facts) := fun m g m' g' _ hx =>
  ⟨fun i => Cert.RowOrder.ranked (m' (((0 : Dev Cert.ReferenceIdeal.nD).tc : Thread Cert.ReferenceIdeal.nD Cert.ReferenceIdeal.τ).loc Cert.ReferenceIdeal.main_arg0))
      (i 0) (i 1),
    θ_run_mono (Cert.KernelIdeal.Top.run_main m g) fun r h c =>
      ⟨fun i hi => by
        rw [eq_ix2 i] at hi ⊢
        exact (congrFun ((h.1 c (1 : Fin 2)).trans (Cert.KernelIdeal.Top.finalA_out m g c)) _).trans
          (Cert.On_clear_rows.outAt_of_fn m g _ hx c (i 0) (i 1) hi),
        (h.1 c (0 : Fin 2)).trans (Cert.KernelIdeal.Top.finalA_arg m g c)⟩,
    (θ_run Cert.ReferenceIdeal.defs _ _).mono
      (fun r h => ⟨fun i _ => by
        rw [eq_ix2 i]
        exact (congrFun (h 0).1 _).trans (Cert.ReferenceIdeal.result_apply _ (i 0) (i 1)), (h 0).2⟩)
      (Cert.ReferenceIdeal.Value.run m' g')⟩

/-- All five claims. -/
theorem claim : Cert.Claim :=
  ⟨Cert.Kernel.Gen.facts, Cert.KernelIdeal.Gen.facts, Cert.ReferenceIdeal.Gen.facts, Cert.On_clear_rows.Gen.facts,
    fun m g _ => Cert.Kernel.Top.frame m g, fun m g _ => Cert.Kernel.Top.frame_ideal m g, reference_frame, trivial, agree⟩

end Cert.Proof

end
